-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Bank (m : (ℓ : Loc Cert.Bank.nD Cert.Bank.τ Cert.Bank.sig) → Buf (Elt Bits) ℓ) : Prop :=
  True

def Pre_BankIdeal (m : (ℓ : Loc Cert.BankIdeal.nD Cert.BankIdeal.τ Cert.BankIdeal.sig) → Buf (Elt Ideal) ℓ) : Prop :=
  True

def Pre_BankRefIdeal (m : (ℓ : Loc Cert.BankRefIdeal.nD Cert.BankRefIdeal.τ Cert.BankRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_Bank [hBank : Cert.Bank.Facts] : Prop :=
  ∀ (m : (ℓ : Loc Cert.Bank.nD Cert.Bank.τ Cert.Bank.sig) → Buf (Elt Bits) ℓ) (g : Dev Cert.Bank.nD → PrngReg), Pre_Bank m →
    θ_run (Cert.Bank.defs (F := Bits)) (onTc (τ := Cert.Bank.τ) (Cert.Bank.main (F := Bits))) ⟨m, fun _ => 0, g⟩ (fun r => (∀ c : Dev Cert.Bank.nD,
      r.2.mem ((c.tc : Thread Cert.Bank.nD Cert.Bank.τ).loc Cert.Bank.main_arg0) = m ((c.tc : Thread Cert.Bank.nD Cert.Bank.τ).loc Cert.Bank.main_arg0)
      ∧ r.2.mem ((c.tc : Thread Cert.Bank.nD Cert.Bank.τ).loc Cert.Bank.main_arg1) = m ((c.tc : Thread Cert.Bank.nD Cert.Bank.τ).loc Cert.Bank.main_arg1)
      ∧ r.2.mem ((c.tc : Thread Cert.Bank.nD Cert.Bank.τ).loc Cert.Bank.main_arg2) = m ((c.tc : Thread Cert.Bank.nD Cert.Bank.τ).loc Cert.Bank.main_arg2)
      ∧ r.2.mem ((c.tc : Thread Cert.Bank.nD Cert.Bank.τ).loc Cert.Bank.main_arg3) = m ((c.tc : Thread Cert.Bank.nD Cert.Bank.τ).loc Cert.Bank.main_arg3))
      ∧ r.2.sem = fun _ => 0)

def quiescent_BankIdeal [hBankIdeal : Cert.BankIdeal.Facts] : Prop :=
  ∀ (m : (ℓ : Loc Cert.BankIdeal.nD Cert.BankIdeal.τ Cert.BankIdeal.sig) → Buf (Elt Ideal) ℓ) (g : Dev Cert.BankIdeal.nD → PrngReg), Pre_BankIdeal m →
    θ_run (Cert.BankIdeal.defs (F := Ideal)) (onTc (τ := Cert.BankIdeal.τ) (Cert.BankIdeal.main (F := Ideal))) ⟨m, fun _ => 0, g⟩ (fun r => (∀ c : Dev Cert.BankIdeal.nD,
      r.2.mem ((c.tc : Thread Cert.BankIdeal.nD Cert.BankIdeal.τ).loc Cert.BankIdeal.main_arg0) = m ((c.tc : Thread Cert.BankIdeal.nD Cert.BankIdeal.τ).loc Cert.BankIdeal.main_arg0)
      ∧ r.2.mem ((c.tc : Thread Cert.BankIdeal.nD Cert.BankIdeal.τ).loc Cert.BankIdeal.main_arg1) = m ((c.tc : Thread Cert.BankIdeal.nD Cert.BankIdeal.τ).loc Cert.BankIdeal.main_arg1)
      ∧ r.2.mem ((c.tc : Thread Cert.BankIdeal.nD Cert.BankIdeal.τ).loc Cert.BankIdeal.main_arg2) = m ((c.tc : Thread Cert.BankIdeal.nD Cert.BankIdeal.τ).loc Cert.BankIdeal.main_arg2)
      ∧ r.2.mem ((c.tc : Thread Cert.BankIdeal.nD Cert.BankIdeal.τ).loc Cert.BankIdeal.main_arg3) = m ((c.tc : Thread Cert.BankIdeal.nD Cert.BankIdeal.τ).loc Cert.BankIdeal.main_arg3))
      ∧ r.2.sem = fun _ => 0)

def quiescent_BankRefIdeal [hBankRefIdeal : Cert.BankRefIdeal.Facts] : Prop :=
  ∀ (m : (ℓ : Loc Cert.BankRefIdeal.nD Cert.BankRefIdeal.τ Cert.BankRefIdeal.sig) → Buf (Elt Ideal) ℓ) (g : Dev Cert.BankRefIdeal.nD → PrngReg), Pre_BankRefIdeal m →
    θ_run (Cert.BankRefIdeal.defs (F := Ideal)) (onTc (τ := Cert.BankRefIdeal.τ) (Cert.BankRefIdeal.main (F := Ideal))) ⟨m, fun _ => 0, g⟩ (fun r => (∀ c : Dev Cert.BankRefIdeal.nD,
      r.2.mem ((c.tc : Thread Cert.BankRefIdeal.nD Cert.BankRefIdeal.τ).loc Cert.BankRefIdeal.main_arg0) = m ((c.tc : Thread Cert.BankRefIdeal.nD Cert.BankRefIdeal.τ).loc Cert.BankRefIdeal.main_arg0)
      ∧ r.2.mem ((c.tc : Thread Cert.BankRefIdeal.nD Cert.BankRefIdeal.τ).loc Cert.BankRefIdeal.main_arg1) = m ((c.tc : Thread Cert.BankRefIdeal.nD Cert.BankRefIdeal.τ).loc Cert.BankRefIdeal.main_arg1)
      ∧ r.2.mem ((c.tc : Thread Cert.BankRefIdeal.nD Cert.BankRefIdeal.τ).loc Cert.BankRefIdeal.main_arg2) = m ((c.tc : Thread Cert.BankRefIdeal.nD Cert.BankRefIdeal.τ).loc Cert.BankRefIdeal.main_arg2)
      ∧ r.2.mem ((c.tc : Thread Cert.BankRefIdeal.nD Cert.BankRefIdeal.τ).loc Cert.BankRefIdeal.main_arg3) = m ((c.tc : Thread Cert.BankRefIdeal.nD Cert.BankRefIdeal.τ).loc Cert.BankRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_v44) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v5_0)) (v1 : (c : Dev Cert.LastIdeal.nD) → Buf (Elt Ideal) ((c.tc : Thread Cert.LastIdeal.nD Cert.LastIdeal.τ).loc Cert.LastIdeal.main_v5_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5_0) = v0 c
          ∧ r.2.mem ((c.tc : Thread Cert.LastIdeal.nD Cert.LastIdeal.τ).loc Cert.LastIdeal.main_v5_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v71) = v0 c
          ∧ r.2.mem ((c.tc : Thread Cert.LastRefIdeal.nD Cert.LastRefIdeal.τ).loc Cert.LastRefIdeal.main_v70) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_Bank_BankIdeal : Prop :=
  True

def algebraic_BankIdeal_BankRefIdeal [hBankIdeal : Cert.BankIdeal.Facts] [hBankRefIdeal : Cert.BankRefIdeal.Facts] : Prop :=
  ∀ (m : (ℓ : Loc Cert.BankIdeal.nD Cert.BankIdeal.τ Cert.BankIdeal.sig) → Buf (Elt Ideal) ℓ) (g : Dev Cert.BankIdeal.nD → PrngReg)
    (m' : (ℓ : Loc Cert.BankRefIdeal.nD Cert.BankRefIdeal.τ Cert.BankRefIdeal.sig) → Buf (Elt Ideal) ℓ) (g' : Dev Cert.BankRefIdeal.nD → PrngReg), Pre_BankIdeal m →
    (∀ c : Dev Cert.BankIdeal.nD,
      m' ((c.tc : Thread Cert.BankRefIdeal.nD Cert.BankRefIdeal.τ).loc Cert.BankRefIdeal.main_arg0) = m ((c.tc : Thread Cert.BankIdeal.nD Cert.BankIdeal.τ).loc Cert.BankIdeal.main_arg0)
      ∧ m' ((c.tc : Thread Cert.BankRefIdeal.nD Cert.BankRefIdeal.τ).loc Cert.BankRefIdeal.main_arg1) = m ((c.tc : Thread Cert.BankIdeal.nD Cert.BankIdeal.τ).loc Cert.BankIdeal.main_arg1)
      ∧ m' ((c.tc : Thread Cert.BankRefIdeal.nD Cert.BankRefIdeal.τ).loc Cert.BankRefIdeal.main_arg2) = m ((c.tc : Thread Cert.BankIdeal.nD Cert.BankIdeal.τ).loc Cert.BankIdeal.main_arg2)
      ∧ m' ((c.tc : Thread Cert.BankRefIdeal.nD Cert.BankRefIdeal.τ).loc Cert.BankRefIdeal.main_arg3) = m ((c.tc : Thread Cert.BankIdeal.nD Cert.BankIdeal.τ).loc Cert.BankIdeal.main_arg3)) →
    ∃ (v0 : (c : Dev Cert.BankIdeal.nD) → Buf (Elt Ideal) ((c.tc : Thread Cert.BankIdeal.nD Cert.BankIdeal.τ).loc Cert.BankIdeal.main_v1_0)) (v1 : (c : Dev Cert.BankIdeal.nD) → Buf (Elt Ideal) ((c.tc : Thread Cert.BankIdeal.nD Cert.BankIdeal.τ).loc Cert.BankIdeal.main_v1_1)) (v2 : (c : Dev Cert.BankIdeal.nD) → Buf (Elt Ideal) ((c.tc : Thread Cert.BankIdeal.nD Cert.BankIdeal.τ).loc Cert.BankIdeal.main_v1_2)) (v3 : (c : Dev Cert.BankIdeal.nD) → Buf (Elt Ideal) ((c.tc : Thread Cert.BankIdeal.nD Cert.BankIdeal.τ).loc Cert.BankIdeal.main_v1_3)),
      θ_run (Cert.BankIdeal.defs (F := Ideal)) (onTc (τ := Cert.BankIdeal.τ) (Cert.BankIdeal.main (F := Ideal))) ⟨m, fun _ => 0, g⟩ (fun r => ∀ c : Dev Cert.BankIdeal.nD,
          r.2.mem ((c.tc : Thread Cert.BankIdeal.nD Cert.BankIdeal.τ).loc Cert.BankIdeal.main_v1_0) = v0 c
          ∧ r.2.mem ((c.tc : Thread Cert.BankIdeal.nD Cert.BankIdeal.τ).loc Cert.BankIdeal.main_v1_1) = v1 c
          ∧ r.2.mem ((c.tc : Thread Cert.BankIdeal.nD Cert.BankIdeal.τ).loc Cert.BankIdeal.main_v1_2) = v2 c
          ∧ r.2.mem ((c.tc : Thread Cert.BankIdeal.nD Cert.BankIdeal.τ).loc Cert.BankIdeal.main_v1_3) = v3 c
          ∧ r.2.mem ((c.tc : Thread Cert.BankIdeal.nD Cert.BankIdeal.τ).loc Cert.BankIdeal.main_arg0) = m ((c.tc : Thread Cert.BankIdeal.nD Cert.BankIdeal.τ).loc Cert.BankIdeal.main_arg0)
          ∧ r.2.mem ((c.tc : Thread Cert.BankIdeal.nD Cert.BankIdeal.τ).loc Cert.BankIdeal.main_arg1) = m ((c.tc : Thread Cert.BankIdeal.nD Cert.BankIdeal.τ).loc Cert.BankIdeal.main_arg1)
          ∧ r.2.mem ((c.tc : Thread Cert.BankIdeal.nD Cert.BankIdeal.τ).loc Cert.BankIdeal.main_arg2) = m ((c.tc : Thread Cert.BankIdeal.nD Cert.BankIdeal.τ).loc Cert.BankIdeal.main_arg2)
          ∧ r.2.mem ((c.tc : Thread Cert.BankIdeal.nD Cert.BankIdeal.τ).loc Cert.BankIdeal.main_arg3) = m ((c.tc : Thread Cert.BankIdeal.nD Cert.BankIdeal.τ).loc Cert.BankIdeal.main_arg3))
      ∧ θ_run (Cert.BankRefIdeal.defs (F := Ideal)) (onTc (τ := Cert.BankRefIdeal.τ) (Cert.BankRefIdeal.main (F := Ideal))) ⟨m', fun _ => 0, g'⟩ (fun r => ∀ c : Dev Cert.BankRefIdeal.nD,
          r.2.mem ((c.tc : Thread Cert.BankRefIdeal.nD Cert.BankRefIdeal.τ).loc Cert.BankRefIdeal.main_v15) = v0 c
          ∧ r.2.mem ((c.tc : Thread Cert.BankRefIdeal.nD Cert.BankRefIdeal.τ).loc Cert.BankRefIdeal.main_v16) = v1 c
          ∧ r.2.mem ((c.tc : Thread Cert.BankRefIdeal.nD Cert.BankRefIdeal.τ).loc Cert.BankRefIdeal.main_v17) = v2 c
          ∧ r.2.mem ((c.tc : Thread Cert.BankRefIdeal.nD Cert.BankRefIdeal.τ).loc Cert.BankRefIdeal.main_v18) = v3 c
          ∧ r.2.mem ((c.tc : Thread Cert.BankRefIdeal.nD Cert.BankRefIdeal.τ).loc Cert.BankRefIdeal.main_arg0) = m' ((c.tc : Thread Cert.BankRefIdeal.nD Cert.BankRefIdeal.τ).loc Cert.BankRefIdeal.main_arg0)
          ∧ r.2.mem ((c.tc : Thread Cert.BankRefIdeal.nD Cert.BankRefIdeal.τ).loc Cert.BankRefIdeal.main_arg1) = m' ((c.tc : Thread Cert.BankRefIdeal.nD Cert.BankRefIdeal.τ).loc Cert.BankRefIdeal.main_arg1)
          ∧ r.2.mem ((c.tc : Thread Cert.BankRefIdeal.nD Cert.BankRefIdeal.τ).loc Cert.BankRefIdeal.main_arg2) = m' ((c.tc : Thread Cert.BankRefIdeal.nD Cert.BankRefIdeal.τ).loc Cert.BankRefIdeal.main_arg2)
          ∧ r.2.mem ((c.tc : Thread Cert.BankRefIdeal.nD Cert.BankRefIdeal.τ).loc Cert.BankRefIdeal.main_arg3) = m' ((c.tc : Thread Cert.BankRefIdeal.nD Cert.BankRefIdeal.τ).loc Cert.BankRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hBank : Cert.Bank.Facts) (hBankIdeal : Cert.BankIdeal.Facts) (hBankRefIdeal : Cert.BankRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Bank (hBank := hBank)
    ∧ quiescent_BankIdeal (hBankIdeal := hBankIdeal)
    ∧ quiescent_BankRefIdeal (hBankRefIdeal := hBankRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Bank_BankIdeal
    ∧ algebraic_BankIdeal_BankRefIdeal (hBankIdeal := hBankIdeal) (hBankRefIdeal := hBankRefIdeal)
-- ==== Kernel.lean ====
abbrev S8x2048x1024 : Shape := ⟨3, ![8, 2048, 1024]⟩
abbrev S8x256x4x256 : Shape := ⟨4, ![8, 256, 4, 256]⟩
abbrev S1024 : Shape := ⟨1, ![1024]⟩
abbrev S1024x1024 : Shape := ⟨2, ![1024, 1024]⟩
abbrev S128x4x4x256 : Shape := ⟨4, ![128, 4, 4, 256]⟩
abbrev S128x256x4x256 : Shape := ⟨4, ![128, 256, 4, 256]⟩
abbrev S8x256x1024 : Shape := ⟨3, ![8, 256, 1024]⟩
abbrev S1x1024 : Shape := ⟨2, ![1, 1024]⟩
abbrev S128x16x256 : Shape := ⟨3, ![128, 16, 256]⟩
abbrev S1x512x1024 : Shape := ⟨3, ![1, 512, 1024]⟩
abbrev S1x256x1024 : Shape := ⟨3, ![1, 256, 1024]⟩
abbrev S4x16x256 : Shape := ⟨3, ![4, 16, 256]⟩
abbrev S3x4x256x4x256 : Shape := ⟨5, ![3, 4, 256, 4, 256]⟩
abbrev S3 : Shape := ⟨1, ![3]⟩
abbrev S1 : Shape := ⟨1, ![1]⟩
abbrev S_ : Shape := ⟨0, ![]⟩
abbrev S1x4x256x4x256 : Shape := ⟨5, ![1, 4, 256, 4, 256]⟩
abbrev S4x256x4x256 : Shape := ⟨4, ![4, 256, 4, 256]⟩
abbrev S16x1024 : Shape := ⟨2, ![16, 1024]⟩
abbrev S64x256 : Shape := ⟨2, ![64, 256]⟩
abbrev S128x256 : Shape := ⟨2, ![128, 256]⟩
abbrev S1x256x4x256 : Shape := ⟨4, ![1, 256, 4, 256]⟩
abbrev S256x4x256 : Shape := ⟨3, ![256, 4, 256]⟩
abbrev S1024x256 : Shape := ⟨2, ![1024, 256]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S16 : Shape := ⟨1, ![16]⟩
abbrev S16x1 : Shape := ⟨2, ![16, 1]⟩
abbrev S512x256 : Shape := ⟨2, ![512, 256]⟩
abbrev S1x256x256 : Shape := ⟨3, ![1, 256, 256]⟩
abbrev S256x256 : Shape := ⟨2, ![256, 256]⟩
abbrev S16x256 : Shape := ⟨2, ![16, 256]⟩
abbrev S1x16x256 : Shape := ⟨3, ![1, 16, 256]⟩

abbrev nBuf : Space → Nat
  | .hbm => 18
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S128x4x4x256, .f32⟩
  | .hbm, ⟨7, _⟩ => ⟨S128x256x4x256, .f32⟩
  | .hbm, ⟨8, _⟩ => ⟨S128x256x4x256, .f32⟩
  | .hbm, ⟨9, _⟩ => ⟨S8x256x1024, .f32⟩
  | .hbm, ⟨10, _⟩ => ⟨S8x256x1024, .bf16⟩
  | .hbm, ⟨11, _⟩ => ⟨S8x256x1024, .f32⟩
  | .hbm, ⟨12, _⟩ => ⟨S8x256x1024, .bf16⟩
  | .hbm, ⟨13, _⟩ => ⟨S1x1024, .f32⟩
  | .hbm, ⟨14, _⟩ => ⟨S128x16x256, .f32⟩
  | .hbm, ⟨15, _⟩ => ⟨S8x2048x1024, .f32⟩
  | .hbm, ⟨16, _⟩ => ⟨S128x16x256, .f32⟩
  | .hbm, ⟨17, _⟩ => ⟨S1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .f32⟩
  | .local _ .vmem, ⟨9, _⟩ => ⟨S4x16x256, .f32⟩
  | .local _ .vmem, ⟨10, _⟩ => ⟨S4x16x256, .f32⟩
  | .local _ .vmem, ⟨11, _⟩ => ⟨S1x512x1024, .f32⟩
  | .local _ .vmem, ⟨12, _⟩ => ⟨S1x512x1024, .f32⟩
  | .local _ .vmem, ⟨13, _⟩ => ⟨S4x16x256, .f32⟩
  | .local _ .vmem, ⟨14, _⟩ => ⟨S4x16x256, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S3x4x256x4x256, .f32⟩
  | .local _ .vmem, ⟨19, _⟩ => ⟨S3x4x256x4x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v9 : BitVec 32 := Scalar.addi v1 c2_i32
  let c32_i32 : BitVec 32 := 32#32
  let v10 : BitVec 1 := Scalar.cmpi .slt v9 c32_i32
  let v11 : BitVec 32 := Scalar.extui v10
  let c0_i32_3 : BitVec 32 := 0#32
  let v12 : BitVec 1 := Scalar.cmpi .ne v11 c0_i32_3
  v12

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_194 : BitVec 32 := 2#32
  let v313 : BitVec 32 := Scalar.addi v1 c2_i32_194
  let c3_i32_195 : BitVec 32 := 3#32
  let c0_i32_196 : BitVec 32 := 0#32
  let v314 : BitVec 1 := Scalar.cmpi .eq c3_i32_195 c0_i32_196
  let c1_i32_197 : BitVec 32 := 1#32
  let v315 : BitVec 32 := Scalar.select v314 c1_i32_197 c3_i32_195
  let v316 : BitVec 32 := Scalar.remsi v313 v315
  let c0_i32_199 : BitVec 32 := 0#32
  let v318 : BitVec 1 := Scalar.cmpi .slt v316 c0_i32_199
  let c0_i32_200 : BitVec 32 := 0#32
  let v319 : BitVec 1 := Scalar.cmpi .slt v315 c0_i32_200
  let v320 : BitVec 1 := Scalar.xori v318 v319
  let c0_i32_198 : BitVec 32 := 0#32
  let v317 : BitVec 1 := Scalar.cmpi .ne v316 c0_i32_198
  let v321 : BitVec 1 := Scalar.andi v320 v317
  let v322 : BitVec 32 := Scalar.addi v316 v315
  let v323 : BitVec 32 := Scalar.select v321 v322 v316
  ![v323.toNat]
def k0_off2 (i : grid0.Coords) : Fin 5 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_194 : BitVec 32 := 2#32
  let v313 : BitVec 32 := Scalar.addi v1 c2_i32_194
  let c3_i32_195 : BitVec 32 := 3#32
  let c0_i32_196 : BitVec 32 := 0#32
  let v314 : BitVec 1 := Scalar.cmpi .eq c3_i32_195 c0_i32_196
  let c1_i32_197 : BitVec 32 := 1#32
  let v315 : BitVec 32 := Scalar.select v314 c1_i32_197 c3_i32_195
  let v316 : BitVec 32 := Scalar.remsi v313 v315
  let c0_i32_199 : BitVec 32 := 0#32
  let v318 : BitVec 1 := Scalar.cmpi .slt v316 c0_i32_199
  let c0_i32_200 : BitVec 32 := 0#32
  let v319 : BitVec 1 := Scalar.cmpi .slt v315 c0_i32_200
  let v320 : BitVec 1 := Scalar.xori v318 v319
  let c0_i32_198 : BitVec 32 := 0#32
  let v317 : BitVec 1 := Scalar.cmpi .ne v316 c0_i32_198
  let v321 : BitVec 1 := Scalar.andi v320 v317
  let v322 : BitVec 32 := Scalar.addi v316 v315
  let v323 : BitVec 32 := Scalar.select v321 v322 v316
  let c0_i32_203 : BitVec 32 := 0#32
  let c0_i32_204 : BitVec 32 := 0#32
  let c0_i32_205 : BitVec 32 := 0#32
  let c0_i32_206 : BitVec 32 := 0#32
  ![v323.toNat, 0, 0, 0, 0]
def k0_off3 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_193 : BitVec 32 := 2#32
  let v312 : BitVec 32 := Scalar.addi v1 c2_i32_193
  let c4_i32_201 : BitVec 32 := 4#32
  let v324 : BitVec 32 := Scalar.muli v312 c4_i32_201
  let c0_i32_207 : BitVec 32 := 0#32
  let c0_i32_208 : BitVec 32 := 0#32
  let c0_i32_209 : BitVec 32 := 0#32
  ![v324.toNat, 0, 0, 0]
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let c0_i32_4 : BitVec 32 := 0#32
  let v13 : BitVec 1 := Scalar.cmpi .eq c3_i32 c0_i32_4
  let c1_i32 : BitVec 32 := 1#32
  let v14 : BitVec 32 := Scalar.select v13 c1_i32 c3_i32
  let v15 : BitVec 32 := Scalar.remsi v1 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  ![v22.toNat]
def k0_off5 (i : grid0.Coords) : Fin 5 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let c0_i32_4 : BitVec 32 := 0#32
  let v13 : BitVec 1 := Scalar.cmpi .eq c3_i32 c0_i32_4
  let c1_i32 : BitVec 32 := 1#32
  let v14 : BitVec 32 := Scalar.select v13 c1_i32 c3_i32
  let v15 : BitVec 32 := Scalar.remsi v1 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_10 : BitVec 32 := 0#32
  let c0_i32_11 : BitVec 32 := 0#32
  let c0_i32_12 : BitVec 32 := 0#32
  let c0_i32_13 : BitVec 32 := 0#32
  ![v22.toNat, 0, 0, 0, 0]
def k0_off6 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_8 : BitVec 32 := 4#32
  let v23 : BitVec 32 := Scalar.muli v1 c4_i32_8
  let c0_i32_14 : BitVec 32 := 0#32
  let c0_i32_15 : BitVec 32 := 0#32
  let c0_i32_16 : BitVec 32 := 0#32
  ![v23.toNat, 0, 0, 0]
def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S8x2048x1024 : Shape := ⟨3, ![8, 2048, 1024]⟩
abbrev S8x256x4x256 : Shape := ⟨4, ![8, 256, 4, 256]⟩
abbrev S1024 : Shape := ⟨1, ![1024]⟩
abbrev S1024x1024 : Shape := ⟨2, ![1024, 1024]⟩
abbrev S128x4x4x256 : Shape := ⟨4, ![128, 4, 4, 256]⟩
abbrev S128x256x4x256 : Shape := ⟨4, ![128, 256, 4, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S128x4x4x256, .f32⟩
  | .hbm, ⟨7, _⟩ => ⟨S128x256x4x256, .f32⟩
  | .hbm, ⟨8, _⟩ => ⟨S128x256x4x256, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x4x256, .f32⟩
  | .hbm, ⟨27, _⟩ => ⟨S8x4x2048x256, .f32⟩
  | .hbm, ⟨28, _⟩ => ⟨S_, .f32⟩
  | .hbm, ⟨29, _⟩ => ⟨S8x4x2048x256, .f32⟩
  | .hbm, ⟨30, _⟩ => ⟨S8x4x2048x256, .f32⟩
  | .hbm, ⟨31, _⟩ => ⟨S_, .f32⟩
  | .hbm, ⟨32, _⟩ => ⟨S8x4x2048, .f32⟩
  | .hbm, ⟨33, _⟩ => ⟨S_, .f32⟩
  | .hbm, ⟨34, _⟩ => ⟨S8x4x2048, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x256x2048, .f32⟩
  | .hbm, ⟨46, _⟩ => ⟨S8x2048x4x256, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Ffn.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1024x1024 : Shape := ⟨2, ![1024, 1024]⟩
abbrev S64x2816 : Shape := ⟨2, ![64, 2816]⟩
abbrev S176x1024 : Shape := ⟨2, ![176, 1024]⟩
abbrev S1024x1 : Shape := ⟨2, ![1024, 1]⟩
abbrev S128x1x1024 : Shape := ⟨3, ![128, 1, 1024]⟩
abbrev S128x1024 : Shape := ⟨2, ![128, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S512x1024, .f32⟩
  | .local _ .vmem, ⟨0, _⟩ => ⟨S1024x1024, .f32⟩
  | .local _ .vmem, ⟨1, _⟩ => ⟨S1024x1024, .f32⟩
  | .local _ .vmem, ⟨2, _⟩ => ⟨S128x4x1024, .f32⟩
  | .local _ .vmem, ⟨3, _⟩ => ⟨S1x1024, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S176x1024, .f32⟩
  | .local _ .vmem, ⟨9, _⟩ => ⟨S176x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S512x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c64_i32 : BitVec 32 := 64#32
  let v11 : BitVec 32 := Scalar.muli arg0 c64_i32
  v11
def k0_off1 (i : grid0.Coords) : Fin 2 → Nat :=
  let arg0 : BitVec 32 := BitVec.ofNat 32 (i 0).val
  let c64_i32 : BitVec 32 := 64#32
  let v11 : BitVec 32 := Scalar.muli arg0 c64_i32
  let v12 : BitVec 32 := v11
  let v15 : Index := Scalar.indexCast v12
  let c0_5 : Index := 0#32
  ![v15.toNat, 0]
def k0_mult2 (i : grid0.Coords) : BitVec 32 :=
  let arg0 : BitVec 32 := BitVec.ofNat 32 (i 0).val
  let c176_i32 : BitVec 32 := 176#32
  let v25 : BitVec 32 := Scalar.muli arg0 c176_i32
  v25
def k0_off2 (i : grid0.Coords) : Fin 2 → Nat :=
  let arg0 : BitVec 32 := BitVec.ofNat 32 (i 0).val
  let c176_i32 : BitVec 32 := 176#32
  let v25 : BitVec 32 := Scalar.muli arg0 c176_i32
  let v26 : BitVec 32 := v25
  let v29 : Index := Scalar.indexCast v26
  let c0_11 : Index := 0#32
  ![v29.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let c32_i32 : BitVec 32 := 32#32
  let v4 : BitVec 1 := Scalar.cmpi .slt arg0 c32_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c32_i32_2 : BitVec 32 := 32#32
  let v8 : BitVec 1 := Scalar.cmpi .eq arg0 c32_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S128x4 : Shape := ⟨2, ![128, 4]⟩
abbrev S128x4x1 : Shape := ⟨3, ![128, 4, 1]⟩
abbrev S128x4x2816 : Shape := ⟨3, ![128, 4, 2816]⟩
abbrev S16384x1024 : Shape := ⟨2, ![16384, 1024]⟩
abbrev S4x128x1024 : Shape := ⟨3, ![4, 128, 1024]⟩
abbrev S512x1024 : Shape := ⟨2, ![512, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S128x4x1024, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S128x4x1, .f32⟩
  | .hbm, ⟨51, _⟩ => ⟨S128x4x1024, .f32⟩
  | .hbm, ⟨52, _⟩ => ⟨S128x4x1024, .f32⟩
  | .hbm, ⟨53, _⟩ => ⟨S1x1x1024, .f32⟩
  | .hbm, ⟨54, _⟩ => ⟨S128x4x1024, .f32⟩
  | .hbm, ⟨55, _⟩ => ⟨S128x4x1024, .f32⟩
  | .hbm, ⟨56, _⟩ => ⟨S128x4x2816, .f32⟩
  | .hbm, ⟨57, _⟩ => ⟨S128x4x2816, .f32⟩
  | .hbm, ⟨58, _⟩ => ⟨S128x4x2816, .f32⟩
  | .hbm, ⟨59, _⟩ => ⟨S_, .f32⟩
  | .hbm, ⟨60, _⟩ => ⟨S128x4x2816, .f32⟩
  | .hbm, ⟨61, _⟩ => ⟨S128x4x2816, .f32⟩
  | .hbm, ⟨62, _⟩ => ⟨S_, .f32⟩
  | .hbm, ⟨63, _⟩ => ⟨S128x4x2816, .f32⟩
  | .hbm, ⟨64, _⟩ => ⟨S128x4x2816, .f32⟩
  | .hbm, ⟨65, _⟩ => ⟨S128x4x2816, .f32⟩
  | .hbm, ⟨66, _⟩ => ⟨S128x4x2816, .f32⟩
  | .hbm, ⟨67, _⟩ => ⟨S128x4x2816, .f32⟩
  | .hbm, ⟨68, _⟩ => ⟨S128x4x1024, .f32⟩
  | .hbm, ⟨69, _⟩ => ⟨S_, .f32⟩
  | .hbm, ⟨70, _⟩ => ⟨S128x4x1024, .f32⟩
  | .hbm, ⟨71, _⟩ => ⟨S128x4x1024, .f32⟩
  | .hbm, ⟨72, _⟩ => ⟨S128x4x1024, .f32⟩
  | .hbm, ⟨73, _⟩ => ⟨S16384x1024, .f32⟩
  | .hbm, ⟨74, _⟩ => ⟨S4x128x1024, .f32⟩
  | .hbm, ⟨75, _⟩ => ⟨S512x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]
-- ==== Last.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S128x4x4x256 : Shape := ⟨4, ![128, 4, 4, 256]⟩
abbrev S1024x1024 : Shape := ⟨2, ![1024, 1024]⟩
abbrev S16384x1024 : Shape := ⟨2, ![16384, 1024]⟩
abbrev S1x1024 : Shape := ⟨2, ![1, 1024]⟩
abbrev S128x16x256 : Shape := ⟨3, ![128, 16, 256]⟩
abbrev S64x2816 : Shape := ⟨2, ![64, 2816]⟩
abbrev S176x1024 : Shape := ⟨2, ![176, 1024]⟩
abbrev S1024x1 : Shape := ⟨2, ![1024, 1]⟩
abbrev S128x1x1024 : Shape := ⟨3, ![128, 1, 1024]⟩
abbrev S128x1024 : Shape := ⟨2, ![128, 1024]⟩
abbrev S512x1024 : Shape := ⟨2, ![512, 1024]⟩
abbrev S128x1x256 : Shape := ⟨3, ![128, 1, 256]⟩
abbrev S128x256 : Shape := ⟨2, ![128, 256]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S128x4x4x256, .f32⟩
  | .hbm, ⟨8, _⟩ => ⟨S1024x1024, .f32⟩
  | .hbm, ⟨9, _⟩ => ⟨S16384x1024, .f32⟩
  | .hbm, ⟨10, _⟩ => ⟨S1x1024, .f32⟩
  | .hbm, ⟨11, _⟩ => ⟨S1x1024, .f32⟩
  | .hbm, ⟨12, _⟩ => ⟨S128x16x256, .f32⟩
  | .hbm, ⟨13, _⟩ => ⟨S1024x1024, .bf16⟩
  | .hbm, ⟨14, _⟩ => ⟨S16384x1024, .f32⟩
  | .hbm, ⟨15, _⟩ => ⟨S128x4x1024, .f32⟩
  | .local _ .vmem, ⟨0, _⟩ => ⟨S1024x1024, .f32⟩
  | .local _ .vmem, ⟨1, _⟩ => ⟨S1024x1024, .f32⟩
  | .local _ .vmem, ⟨2, _⟩ => ⟨S128x4x1024, .f32⟩
  | .local _ .vmem, ⟨3, _⟩ => ⟨S1x1024, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S176x1024, .f32⟩
  | .local _ .vmem, ⟨9, _⟩ => ⟨S176x1024, .f32⟩
  | .local _ .vmem, ⟨10, _⟩ => ⟨S1x1024, .f32⟩
  | .local _ .vmem, ⟨11, _⟩ => ⟨S128x16x256, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S128x4x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c64_i32 : BitVec 32 := 64#32
  let v11 : BitVec 32 := Scalar.muli arg0 c64_i32
  v11
def k0_off1 (i : grid0.Coords) : Fin 2 → Nat :=
  let arg0 : BitVec 32 := BitVec.ofNat 32 (i 0).val
  let c64_i32 : BitVec 32 := 64#32
  let v11 : BitVec 32 := Scalar.muli arg0 c64_i32
  let v12 : BitVec 32 := v11
  let v15 : Index := Scalar.indexCast v12
  let c0_5 : Index := 0#32
  ![v15.toNat, 0]
def k0_mult2 (i : grid0.Coords) : BitVec 32 :=
  let arg0 : BitVec 32 := BitVec.ofNat 32 (i 0).val
  let c176_i32 : BitVec 32 := 176#32
  let v25 : BitVec 32 := Scalar.muli arg0 c176_i32
  v25
def k0_off2 (i : grid0.Coords) : Fin 2 → Nat :=
  let arg0 : BitVec 32 := BitVec.ofNat 32 (i 0).val
  let c176_i32 : BitVec 32 := 176#32
  let v25 : BitVec 32 := Scalar.muli arg0 c176_i32
  let v26 : BitVec 32 := v25
  let v29 : Index := Scalar.indexCast v26
  let c0_11 : Index := 0#32
  ![v29.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let c32_i32 : BitVec 32 := 32#32
  let v4 : BitVec 1 := Scalar.cmpi .slt arg0 c32_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c32_i32_2 : BitVec 32 := 32#32
  let v8 : BitVec 1 := Scalar.cmpi .eq arg0 c32_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LastRefIdeal.lean ====
abbrev S8x2048x1024 : Shape := ⟨3, ![8, 2048, 1024]⟩
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S128x4x4x256 : Shape := ⟨4, ![128, 4, 4, 256]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S128x4 : Shape := ⟨2, ![128, 4]⟩
abbrev S128x4x1 : Shape := ⟨3, ![128, 4, 1]⟩
abbrev S128x4x2816 : Shape := ⟨3, ![128, 4, 2816]⟩
abbrev S16384x1024 : Shape := ⟨2, ![16384, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S128x4x4x256, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S128x4x1024, .f32⟩
  | .hbm, ⟨59, _⟩ => ⟨S128x4x1024, .f32⟩
  | .hbm, ⟨60, _⟩ => ⟨S128x4x1024, .f32⟩
  | .hbm, ⟨61, _⟩ => ⟨S128x4x1024, .f32⟩
  | .hbm, ⟨62, _⟩ => ⟨S_, .f32⟩
  | .hbm, ⟨63, _⟩ => ⟨S128x4, .f32⟩
  | .hbm, ⟨64, _⟩ => ⟨S128x4x1, .f32⟩
  | .hbm, ⟨65, _⟩ => ⟨S_, .f32⟩
  | .hbm, ⟨66, _⟩ => ⟨S128x4x1, .f32⟩
  | .hbm, ⟨67, _⟩ => ⟨S128x4x1, .f32⟩
  | .hbm, ⟨68, _⟩ => ⟨S_, .f32⟩
  | .hbm, ⟨69, _⟩ => ⟨S128x4x1, .f32⟩
  | .hbm, ⟨70, _⟩ => ⟨S128x4x1, .f32⟩
  | .hbm, ⟨71, _⟩ => ⟨S128x4x1, .f32⟩
  | .hbm, ⟨72, _⟩ => ⟨S128x4x1024, .f32⟩
  | .hbm, ⟨73, _⟩ => ⟨S128x4x1024, .f32⟩
  | .hbm, ⟨74, _⟩ => ⟨S1x1x1024, .f32⟩
  | .hbm, ⟨75, _⟩ => ⟨S128x4x1024, .f32⟩
  | .hbm, ⟨76, _⟩ => ⟨S128x4x1024, .f32⟩
  | .hbm, ⟨77, _⟩ => ⟨S128x4x2816, .f32⟩
  | .hbm, ⟨78, _⟩ => ⟨S128x4x2816, .f32⟩
  | .hbm, ⟨79, _⟩ => ⟨S128x4x2816, .f32⟩
  | .hbm, ⟨80, _⟩ => ⟨S_, .f32⟩
  | .hbm, ⟨81, _⟩ => ⟨S128x4x2816, .f32⟩
  | .hbm, ⟨82, _⟩ => ⟨S128x4x2816, .f32⟩
  | .hbm, ⟨83, _⟩ => ⟨S_, .f32⟩
  | .hbm, ⟨84, _⟩ => ⟨S128x4x2816, .f32⟩
  | .hbm, ⟨85, _⟩ => ⟨S128x4x2816, .f32⟩
  | .hbm, ⟨86, _⟩ => ⟨S128x4x2816, .f32⟩
  | .hbm, ⟨87, _⟩ => ⟨S128x4x2816, .f32⟩
  | .hbm, ⟨88, _⟩ => ⟨S128x4x2816, .f32⟩
  | .hbm, ⟨89, _⟩ => ⟨S128x4x1024, .f32⟩
  | .hbm, ⟨90, _⟩ => ⟨S_, .f32⟩
  | .hbm, ⟨91, _⟩ => ⟨S128x4x1024, .f32⟩
  | .hbm, ⟨92, _⟩ => ⟨S128x4x1024, .f32⟩
  | .hbm, ⟨93, _⟩ => ⟨S128x4x1024, .f32⟩
  | .hbm, ⟨94, _⟩ => ⟨S128x4x1024, .f32⟩
  | .hbm, ⟨95, _⟩ => ⟨S_, .f32⟩
  | .hbm, ⟨96, _⟩ => ⟨S128x4, .f32⟩
  | .hbm, ⟨97, _⟩ => ⟨S128x4x1, .f32⟩
  | .hbm, ⟨98, _⟩ => ⟨S_, .f32⟩
  | .hbm, ⟨99, _⟩ => ⟨S128x4x1, .f32⟩
  | .hbm, ⟨100, _⟩ => ⟨S128x4x1, .f32⟩
  | .hbm, ⟨101, _⟩ => ⟨S_, .f32⟩
  | .hbm, ⟨102, _⟩ => ⟨S128x4x1, .f32⟩
  | .hbm, ⟨103, _⟩ => ⟨S128x4x1, .f32⟩
  | .hbm, ⟨104, _⟩ => ⟨S128x4x1, .f32⟩
  | .hbm, ⟨105, _⟩ => ⟨S128x4x1024, .f32⟩
  | .hbm, ⟨106, _⟩ => ⟨S128x4x1024, .f32⟩
  | .hbm, ⟨107, _⟩ => ⟨S1x1x1024, .f32⟩
  | .hbm, ⟨108, _⟩ => ⟨S128x4x1024, .f32⟩
  | .hbm, ⟨109, _⟩ => ⟨S128x4x1024, .f32⟩
  | .hbm, ⟨110, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Bank.lean ====
abbrev S8x256x1024 : Shape := ⟨3, ![8, 256, 1024]⟩
abbrev S1024 : Shape := ⟨1, ![1024]⟩
abbrev S1024x1024 : Shape := ⟨2, ![1024, 1024]⟩
abbrev S1x1024 : Shape := ⟨2, ![1, 1024]⟩
abbrev S8x256x4x256 : Shape := ⟨4, ![8, 256, 4, 256]⟩
abbrev S1x256x1024 : Shape := ⟨3, ![1, 256, 1024]⟩
abbrev S1x256x4x256 : Shape := ⟨4, ![1, 256, 4, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x1x256 : Shape := ⟨4, ![1, 256, 1, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S8x256x4x256, .f32⟩
  | .hbm, ⟨6, _⟩ => ⟨S8x256x4x256, .f32⟩
  | .hbm, ⟨7, _⟩ => ⟨S8x256x1024, .bf16⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x4x256, .f32⟩
  | .local _ .vmem, ⟨6, _⟩ => ⟨S1x256x4x256, .f32⟩
  | .local _ .vmem, ⟨7, _⟩ => ⟨S1x256x4x256, .f32⟩
  | .local _ .vmem, ⟨8, _⟩ => ⟨S1x256x4x256, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1024x1024, .bf16⟩
  | .local _ .vmem, ⟨14, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BankRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x4x256 : Shape := ⟨4, ![8, 256, 4, 256]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x256x4x256, .f32⟩
  | .hbm, ⟨23, _⟩ => ⟨S8x256x4x256, .f32⟩
  | .hbm, ⟨24, _⟩ => ⟨S8x256x1024, .bf16⟩
  | .hbm, ⟨25, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.AttnRing.lean ====
/- The attention call's arrays at its region, its staging buffers, the conditions of its grid points, and the ring of three
   slots through which four rows of cached keys and values arrive per point, two points ahead. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((hA c 2).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (Scalar.addi (Scalar.muli (BitVec.ofNat 32 (i 0).val) 4#32) (BitVec.ofNat 32 (i 1).val)) 0#32) 1#1)) 0#32) = 1#1
/-- It holds at the first point only — decided over the grid. -/
theorem hcond0_1 : ∀ t : Fin cfg0.N, cond0_1 (grid0.coords t) ↔ t.val % 32 = 0 :=
  (by decide +kernel : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points before point 30 — decided over the grid. -/
theorem hcond0_2 : ∀ t : Fin cfg0.N, cond0_2 (grid0.coords t) ↔ t.val < 30 :=
  (by decide +kernel : ∀ t : Fin grid0.N, cond0_2 (grid0.coords t) ↔ t.val < 30)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x16x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x16x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S3x4x256x4x256 .f32 := Memref.whole cc0_scratch2
abbrev scM0_3 : Memref sig .tc .vmem S3x4x256x4x256 .f32 := Memref.whole cc0_scratch3
/-- The operands left in HBM that the body copies into scratch itself, whole. -/
abbrev hbM0_0 : Memref sig .tc .hbm S128x256x4x256 .f32 := Memref.whole main_arg7
abbrev hbM0_1 : Memref sig .tc .hbm S128x256x4x256 .f32 := Memref.whole main_arg8
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 16, SemLoc.dma 17, SemLoc.dma 18, SemLoc.dma 19, SemLoc.dma 20, SemLoc.dma 21] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg7, main_arg8}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg7) ∗ hbPt0 c hbM0_1 (V m c main_arg8)) := by
  rw [BI.bigSep_eq_bigSepL_of_eq [main_arg7, main_arg8] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg7) ∗ hbPt0 c hbM0_1 (V m c main_arg8))) := by
  rw [Pipeline.ΦD_eq, scopedRest0_eq, ownSems00_eq, hbmPts0_eq]; simp only [scM0_0, scM0_1, scM0_2, scM0_3, owns_whole]; try rfl

/-! ## Ring 0 of kernel 0: `main_arg8` streamed through the 3 slots of `cc0_scratch3` on the cells of `cc0_scratch5`, 2 block ahead, in 32 steps -/

instance : NeZero grid0.N := ⟨by rw [N_0]; decide⟩
theorem inb_slot0_0 (s : Fin 3) : ∀ a, (![s.val, 0, 0, 0, 0] : Fin 5 → Nat) a + S1x4x256x4x256.size a ≤ S3x4x256x4x256.size a := by
  have := s.isLt; intro a; fin_cases a <;> simp <;> omega
theorem inb_src0_0 (b : Fin 32) : ∀ a, (![4 * b.val, 0, 0, 0] : Fin 4 → Nat) a + S4x256x4x256.size a ≤ S128x256x4x256.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S4x256x4x256 .f32 :=
  (scM0_3.slice (Rect.unit (s := S3x4x256x4x256) ![s.val, 0, 0, 0, 0] S1x4x256x4x256.size (inb_slot0_0 s)) (fun _ => rfl)).squeeze S4x256x4x256 squeezes_S1x4x256x4x256_S4x256x4x256
/-- Block `b` of the operand (the block step `b` waits), spelt as the transfers spell their source, at offsets in `b`. -/
def srcB0_0 (b : Fin 32) : Memref sig .tc .hbm S4x256x4x256 .f32 :=
  hbM0_1.slice (Rect.unit (s := S128x256x4x256) ![4 * b.val, 0, 0, 0] S4x256x4x256.size (inb_src0_0 b)) (fun _ => rfl)
/-- Cell `s` of `cc0_scratch5`, spelt as the body spells a cell; its number in the pool. -/
def cellA0_0 (s : Fin 3) : DmaSems sig S_ := (cc0_scratch5.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 19 := by decide
theorem cellR0_0_1 : cellR0_0 1 = SemLoc.dma 20 := by decide
theorem cellR0_0_2 : cellR0_0 2 = SemLoc.dma 21 := by decide

section Ring0_0
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 32) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 32) : sProp 𝕄 := ((c : Thread nD τ).loc main_arg8) ↦[Finset.univ \ (srcB0_0 b).view.set]{qs0_0 s} W
abbrev wholeP0_0 (s : Fin 3) : sProp 𝕄 := ((c : Thread nD τ).loc main_arg8) ↦[Finset.univ]{qs0_0 s} W
abbrev landed0_0 (s : Fin 3) (b : Fin 32) (f : HbBuf0 (F := F) c (rslot0_0 s)) : HbBuf0 (F := F) c (rslot0_0 s) :=
  (rslot0_0 s).view.writes (Elt F) f [⟨Rect.whole S4x256x4x256, ReadAs.same.apply ((srcB0_0 b).view.read (Elt F) W)⟩]
abbrev flightP0_0 (s : Fin 3) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 32) (f : HbBuf0 (F := F) c (rslot0_0 s)) : sProp 𝕄 := iprop(flightP0_0 c W s b f ∗ restP0_0 c W s b)
abbrev noHome0_0 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 19) 0 := congrArg (fun x => (semVal ((c : Thread nD τ), x) 0 : sProp 𝕄)) cellR0_0_0
omit [FloatOps F] in
theorem cellP0_0_1 : cellP0_0 (F := F) c 1 = semVal ((c : Thread nD τ), SemLoc.dma 20) 0 := congrArg (fun x => (semVal ((c : Thread nD τ), x) 0 : sProp 𝕄)) cellR0_0_1
omit [FloatOps F] in
theorem cellP0_0_2 : cellP0_0 (F := F) c 2 = semVal ((c : Thread nD τ), SemLoc.dma 21) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x4x256x4x256.Idx := (Rect.unit (s := S3x4x256x4x256) ![s.val, 0, 0, 0, 0] S1x4x256x4x256.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x4x256x4x256) (0 : Fin 5) 1 (fun s : Fin 3 => (![s.val, 0, 0, 0, 0] : Fin 5 → Nat)) S1x4x256x4x256.size inb_slot0_0 (fun s => by simp) rfl s s' h
theorem slots0_0_cover : Finset.univ.biUnion slotSet0_0 = Finset.univ :=
  Ring.lead_cover (s := S3x4x256x4x256) (0 : Fin 5) 1 (fun s : Fin 3 => (![s.val, 0, 0, 0, 0] : Fin 5 → Nat)) S1x4x256x4x256.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_1)
theorem slotP0_0_eq (s : Fin 3) (f) : slotP0_0 (F := F) c s f = (((c : Thread nD τ).loc cc0_scratch3) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 32) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_1 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_3 fullShare d) ⊢ (iprop((∃ f, slotP0_0 (F := F) c 0 f) ∗ (∃ f, slotP0_0 (F := F) c 1 f) ∗ ∃ f, slotP0_0 (F := F) c 2 f) : sProp 𝕄) := by
  simp only [scM0_3, owns_whole]
  exact Ring.slots3_split (U := Pipeline.UD sig nD τ) (ℓ := (c : Thread nD τ).loc cc0_scratch3) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_3 fullShare d) := by
  simp only [scM0_3, owns_whole]
  exact Ring.slots3_join (U := Pipeline.UD sig nD τ) (ℓ := (c : Thread nD τ).loc cc0_scratch3) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_3 fullShare d) ∗ (semVal ((c : Thread nD τ), SemLoc.dma 19) 0 ∗ semVal ((c : Thread nD τ), SemLoc.dma 20) 0 ∗ semVal ((c : Thread nD τ), SemLoc.dma 21) 0) ∗ hbPt0 c hbM0_1 (V m c main_arg8))
      ⊢ ringAt0_0 c (V m c main_arg8) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg8)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_arg8) 32
      ⊢ iprop((∃ d, owns (c : Thread nD τ) scM0_3 fullShare d) ∗ (semVal ((c : Thread nD τ), SemLoc.dma 19) 0 ∗ semVal ((c : Thread nD τ), SemLoc.dma 20) 0 ∗ semVal ((c : Thread nD τ), SemLoc.dma 21) 0) ∗ hbPt0 c hbM0_1 (V m c main_arg8)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg8)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → t.val = 0 ∧ (t.val + 1) = 1 := by decide +kernel
/-- At the points of case B the ring takes a step, a block still to start. -/
theorem rstep0_0_B : ∀ t : Fin grid0.N, ¬cond0_0 (grid0.coords t) → ¬cond0_1 (grid0.coords t) → cond0_2 (grid0.coords t) → 1 ≤ t.val ∧ t.val + 2 < 32 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ 32 ≤ t.val + 2 ∧ t.val < 32 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0, 0, 0] : Fin 5 → Nat) = ![(Ring.sl 3 t.val).val, 0, 0, 0, 0] := by decide +kernel
@[sl_canon] theorem canon0_0_1 (t : Fin grid0.N) (h0 : cond0_0 (grid0.coords t)) (h1 : cond0_1 (grid0.coords t)) (h2 : cond0_2 (grid0.coords t)) :
    (scM0_3.slice (Rect.unit (s := S3x4x256x4x256) ![0, 0, 0, 0, 0] S1x4x256x4x256.size inb_S3x4x256x4x256_S1x4x256x4x256_0_0_0_0_0) (fun _ => rfl)).squeeze S4x256x4x256 squeezes_S1x4x256x4x256_S4x256x4x256 = rslot0_0 (Ring.sl 3 t.val) :=
  congrArg (fun M : Memref sig .tc .vmem S1x4x256x4x256 .f32 => M.squeeze S4x256x4x256 squeezes_S1x4x256x4x256_S4x256x4x256) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → cond0_2 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) :
    (cc0_scratch5.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → cond0_2 (grid0.coords t) → (![0, 0, 0, 0] : Fin 4 → Nat) = ![4 * (Ring.bk 32 t.val).val, 0, 0, 0] := by decide +kernel
@[sl_canon] theorem canon0_0_3 (t : Fin grid0.N) (h0 : cond0_0 (grid0.coords t)) (h1 : cond0_1 (grid0.coords t)) (h2 : cond0_2 (grid0.coords t)) :
    hbM0_1.slice (Rect.unit (s := S128x256x4x256) ![0, 0, 0, 0] S4x256x4x256.size inb_S128x256x4x256_S4x256x4x256_0_0_0_0) (fun _ => rfl) = srcB0_0 (Ring.bk 32 t.val) :=
  congrArg (fun M : Memref sig .tc .hbm S4x256x4x256 .f32 => M) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → cond0_2 (grid0.coords t) → (![1, 0, 0, 0, 0] : Fin 5 → Nat) = ![(Ring.sl 3 (t.val + 1)).val, 0, 0, 0, 0] := by decide +kernel
@[sl_canon] theorem canon0_0_4 (t : Fin grid0.N) (h0 : cond0_0 (grid0.coords t)) (h1 : cond0_1 (grid0.coords t)) (h2 : cond0_2 (grid0.coords t)) :
    (scM0_3.slice (Rect.unit (s := S3x4x256x4x256) ![1, 0, 0, 0, 0] S1x4x256x4x256.size inb_S3x4x256x4x256_S1x4x256x4x256_1_0_0_0_0) (fun _ => rfl)).squeeze S4x256x4x256 squeezes_S1x4x256x4x256_S4x256x4x256 = rslot0_0 (Ring.sl 3 (t.val + 1)) :=
  congrArg (fun M : Memref sig .tc .vmem S1x4x256x4x256 .f32 => M.squeeze S4x256x4x256 squeezes_S1x4x256x4x256_S4x256x4x256) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → cond0_2 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) :
    (cc0_scratch5.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
theorem coff0_0_6 : ∀ t : Fin grid0.N, cond0_0 (grid0.coords t) → cond0_1 (grid0.coords t) → cond0_2 (grid0.coords t) → (![4, 0, 0, 0] : Fin 4 → Nat) = ![4 * (Ring.bk 32 (t.val + 1)).val, 0, 0, 0] := by decide +kernel
@[sl_canon] theorem canon0_0_6 (t : Fin grid0.N) (h0 : cond0_0 (grid0.coords t)) (h1 : cond0_1 (grid0.coords t)) (h2 : cond0_2 (grid0.coords t)) :
    hbM0_1.slice (Rect.unit (s := S128x256x4x256) ![4, 0, 0, 0] S4x256x4x256.size inb_S128x256x4x256_S4x256x4x256_4_0_0_0) (fun _ => rfl) = srcB0_0 (Ring.bk 32 (t.val + 1)) :=
  congrArg (fun M : Memref sig .tc .hbm S4x256x4x256 .f32 => M) (Memref.slice_unit_congr _ (coff0_0_6 t h0 h1 h2) _ _ (fun _ => rfl) (fun _ => rfl))
set_option synthInstance.maxSize 4096 in
theorem coff0_0_7 : ∀ t : Fin grid0.N, k0_off2 (grid0.coords t) = ![(Ring.sl 3 (t.val + 2)).val, 0, 0, 0, 0] := by decide +kernel
@[sl_canon] theorem canon0_0_7 (t : Fin grid0.N) (h2 : cond0_2 (grid0.coords t)) :
    (scM0_3.slice (Rect.unit (s := S3x4x256x4x256) (k0_off2 (grid0.coords t)) S1x4x256x4x256.size (k0_off2_inb (grid0.coords t) h2)) (fun _ => rfl)).squeeze S4x256x4x256 squeezes_S1x4x256x4x256_S4x256x4x256 = rslot0_0 (Ring.sl 3 (t.val + 2)) :=
  congrArg (fun M : Memref sig .tc .vmem S1x4x256x4x256 .f32 => M.squeeze S4x256x4x256 squeezes_S1x4x256x4x256_S4x256x4x256) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h2 : cond0_2 (grid0.coords t)) :
    (cc0_scratch5.slice (Rect.unit (s := S3) (k0_off1 (grid0.coords t)) S1.size (k0_off1_inb (grid0.coords t) h2))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → k0_off3 (grid0.coords t) = ![4 * (Ring.bk 32 (t.val + 2)).val, 0, 0, 0] := by decide +kernel
@[sl_canon] theorem canon0_0_9 (t : Fin grid0.N) (h0 : cond0_0 (grid0.coords t)) (h1 : cond0_1 (grid0.coords t)) (h2 : cond0_2 (grid0.coords t)) :
    hbM0_1.slice (Rect.unit (s := S128x256x4x256) (k0_off3 (grid0.coords t)) S4x256x4x256.size (k0_off3_inb (grid0.coords t) h2)) (fun _ => rfl) = srcB0_0 (Ring.bk 32 (t.val + 2)) :=
  congrArg (fun M : Memref sig .tc .hbm S4x256x4x256 .f32 => M) (Memref.slice_unit_congr _ (coff0_0_9 t h0 h1 h2) _ _ (fun _ => rfl) (fun _ => rfl))
set_option synthInstance.maxSize 4096 in
theorem coff0_0_10 : ∀ t : Fin grid0.N, k0_off5 (grid0.coords t) = ![(Ring.sl 3 t.val).val, 0, 0, 0, 0] := by decide +kernel
@[sl_canon] theorem canon0_0_10 (t : Fin grid0.N) :
    (scM0_3.slice (Rect.unit (s := S3x4x256x4x256) (k0_off5 (grid0.coords t)) S1x4x256x4x256.size (k0_off5_inb (grid0.coords t))) (fun _ => rfl)).squeeze S4x256x4x256 squeezes_S1x4x256x4x256_S4x256x4x256 = rslot0_0 (Ring.sl 3 t.val) :=
  congrArg (fun M : Memref sig .tc .vmem S1x4x256x4x256 .f32 => M.squeeze S4x256x4x256 squeezes_S1x4x256x4x256_S4x256x4x256) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch5.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → ¬cond0_1 (grid0.coords t) → cond0_2 (grid0.coords t) → k0_off3 (grid0.coords t) = ![4 * (Ring.bk 32 (t.val + 2)).val, 0, 0, 0] := by decide +kernel
@[sl_canon] theorem canon0_0_12 (t : Fin grid0.N) (h0 : ¬cond0_0 (grid0.coords t)) (h1 : ¬cond0_1 (grid0.coords t)) (h2 : cond0_2 (grid0.coords t)) :
    hbM0_1.slice (Rect.unit (s := S128x256x4x256) (k0_off3 (grid0.coords t)) S4x256x4x256.size (k0_off3_inb (grid0.coords t) h2)) (fun _ => rfl) = srcB0_0 (Ring.bk 32 (t.val + 2)) :=
  congrArg (fun M : Memref sig .tc .hbm S4x256x4x256 .f32 => M) (Memref.slice_unit_congr _ (coff0_0_12 t h0 h1 h2) _ _ (fun _ => rfl) (fun _ => rfl))
end Canon0_0

/-! ## Ring 1 of kernel 0: `main_arg7` streamed through the 3 slots of `cc0_scratch2` on the cells of `cc0_scratch4`, 2 block ahead, in 32 steps -/

theorem inb_slot0_1 (s : Fin 3) : ∀ a, (![s.val, 0, 0, 0, 0] : Fin 5 → Nat) a + S1x4x256x4x256.size a ≤ S3x4x256x4x256.size a := by
  have := s.isLt; intro a; fin_cases a <;> simp <;> omega
theorem inb_src0_1 (b : Fin 32) : ∀ a, (![4 * b.val, 0, 0, 0] : Fin 4 → Nat) a + S4x256x4x256.size a ≤ S128x256x4x256.size a := by
  have := b.isLt; intro a; fin_cases a <;> simp <;> omega
theorem inb_cell0_1 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_1 (s : Fin 3) : Memref sig .tc .vmem S4x256x4x256 .f32 :=
  (scM0_2.slice (Rect.unit (s := S3x4x256x4x256) ![s.val, 0, 0, 0, 0] S1x4x256x4x256.size (inb_slot0_1 s)) (fun _ => rfl)).squeeze S4x256x4x256 squeezes_S1x4x256x4x256_S4x256x4x256
/-- Block `b` of the operand (the block step `b` waits), spelt as the transfers spell their source, at offsets in `b`. -/
def srcB0_1 (b : Fin 32) : Memref sig .tc .hbm S4x256x4x256 .f32 :=
  hbM0_0.slice (Rect.unit (s := S128x256x4x256) ![4 * b.val, 0, 0, 0] S4x256x4x256.size (inb_src0_1 b)) (fun _ => rfl)
/-- Cell `s` of `cc0_scratch4`, spelt as the body spells a cell; its number in the pool. -/
def cellA0_1 (s : Fin 3) : DmaSems sig S_ := (cc0_scratch4.slice (Rect.unit (s := S3) ![s.val] S1.size (inb_cell0_1 s))).squeeze S_ squeezes_S1_S_
abbrev cellR0_1 (s : Fin 3) : SemLoc sig := SemLoc.dma (cellA0_1 s).sem
theorem cellR0_1_0 : cellR0_1 0 = SemLoc.dma 16 := by decide
theorem cellR0_1_1 : cellR0_1 1 = SemLoc.dma 17 := by decide
theorem cellR0_1_2 : cellR0_1 2 = SemLoc.dma 18 := by decide

section Ring0_1
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_1 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 32) : sProp 𝕄 := (srcB0_1 b).view.loc (c : Thread nD τ) ↦[(srcB0_1 b).view.set]{qs0_1 s} W
/-- (a `def`: no run reads this rest, and folded it stays out of the executor's table of held buffers) -/
def restP0_1 (s : Fin 3) (b : Fin 32) : sProp 𝕄 := ((c : Thread nD τ).loc main_arg7) ↦[Finset.univ \ (srcB0_1 b).view.set]{qs0_1 s} W
abbrev wholeP0_1 (s : Fin 3) : sProp 𝕄 := ((c : Thread nD τ).loc main_arg7) ↦[Finset.univ]{qs0_1 s} W
abbrev landed0_1 (s : Fin 3) (b : Fin 32) (f : HbBuf0 (F := F) c (rslot0_1 s)) : HbBuf0 (F := F) c (rslot0_1 s) :=
  (rslot0_1 s).view.writes (Elt F) f [⟨Rect.whole S4x256x4x256, ReadAs.same.apply ((srcB0_1 b).view.read (Elt F) W)⟩]
abbrev flightP0_1 (s : Fin 3) (b : Fin 32) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 3) (f : HbBuf0 (F := F) c (rslot0_1 s)) : sProp 𝕄 := iprop(slotP0_1 c s f ∗ wholeP0_1 c W s)
abbrev flightW0_1 (s : Fin 3) (b : Fin 32) (f : HbBuf0 (F := F) c (rslot0_1 s)) : sProp 𝕄 := iprop(flightP0_1 c W s b f ∗ restP0_1 c W s b)
abbrev noHome0_1 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 16) 0 := congrArg (fun x => (semVal ((c : Thread nD τ), x) 0 : sProp 𝕄)) cellR0_1_0
omit [FloatOps F] in
theorem cellP0_1_1 : cellP0_1 (F := F) c 1 = semVal ((c : Thread nD τ), SemLoc.dma 17) 0 := congrArg (fun x => (semVal ((c : Thread nD τ), x) 0 : sProp 𝕄)) cellR0_1_1
omit [FloatOps F] in
theorem cellP0_1_2 : cellP0_1 (F := F) c 2 = semVal ((c : Thread nD τ), SemLoc.dma 18) 0 := congrArg (fun x => (semVal ((c : Thread nD τ), x) 0 : sProp 𝕄)) cellR0_1_2
end Ring0_1

/-! ### The slots, disjoint and covering the scratch (Lib/Ring.lean `lead_disjoint` / `lead_cover`) -/

abbrev slotSet0_1 (s : Fin 3) : Finset S3x4x256x4x256.Idx := (Rect.unit (s := S3x4x256x4x256) ![s.val, 0, 0, 0, 0] S1x4x256x4x256.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x4x256x4x256) (0 : Fin 5) 1 (fun s : Fin 3 => (![s.val, 0, 0, 0, 0] : Fin 5 → Nat)) S1x4x256x4x256.size inb_slot0_1 (fun s => by simp) rfl s s' h
theorem slots0_1_cover : Finset.univ.biUnion slotSet0_1 = Finset.univ :=
  Ring.lead_cover (s := S3x4x256x4x256) (0 : Fin 5) 1 (fun s : Fin 3 => (![s.val, 0, 0, 0, 0] : Fin 5 → Nat)) S1x4x256x4x256.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_0)
theorem slotP0_1_eq (s : Fin 3) (f) : slotP0_1 (F := F) c s f = (((c : Thread nD τ).loc cc0_scratch2) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 3) (b : Fin 32) : wholeP0_1 (F := F) c W s ⊣⊢ iprop(srcP0_1 c W s b ∗ restP0_1 c W s b) := by
  unfold restP0_1; exact pointsTo_split_subset (Finset.subset_univ _)
/-- the operand whole at the full share is the three copies (halves, the right one halved again). -/
theorem whole0_1_split : (hbPt0 c hbM0_0 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_1_in : iprop(∃ d, owns (c : Thread nD τ) scM0_2 fullShare d) ⊢ (iprop((∃ f, slotP0_1 (F := F) c 0 f) ∗ (∃ f, slotP0_1 (F := F) c 1 f) ∗ ∃ f, slotP0_1 (F := F) c 2 f) : sProp 𝕄) := by
  simp only [scM0_2, owns_whole]
  exact Ring.slots3_split (U := Pipeline.UD sig nD τ) (ℓ := (c : Thread nD τ).loc cc0_scratch2) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-- INTO THE RING: the launch's pieces — the scratch whole, the cells at zero, the operand whole — are the ring before its first step; -/
theorem ring0_1_in (c : Dev nD) :
    iprop((∃ d, owns (c : Thread nD τ) scM0_2 fullShare d) ∗ (semVal ((c : Thread nD τ), SemLoc.dma 16) 0 ∗ semVal ((c : Thread nD τ), SemLoc.dma 17) 0 ∗ semVal ((c : Thread nD τ), SemLoc.dma 18) 0) ∗ hbPt0 c hbM0_0 (V m c main_arg7))
      ⊢ ringAt0_1 c (V m c main_arg7) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_arg7)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_1_out (c : Dev nD) :
    ringAt0_1 c (V m c main_arg7) 32
      ⊢ iprop((∃ d, owns (c : Thread nD τ) scM0_2 fullShare d) ∗ (semVal ((c : Thread nD τ), SemLoc.dma 16) 0 ∗ semVal ((c : Thread nD τ), SemLoc.dma 17) 0 ∗ semVal ((c : Thread nD τ), SemLoc.dma 18) 0) ∗ hbPt0 c hbM0_0 (V m c main_arg7)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_arg7)).2; isplitl [HW0]; · iexact HW0
    isplitl [HW1]; · iexact HW1
    iexact HW2

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → cond0_2 (grid0.coords t) → t.val = 0 ∧ (t.val + 1) = 1 := by decide +kernel
/-- At the points of case B the ring takes a step, a block still to start. -/
theorem rstep0_1_B : ∀ t : Fin grid0.N, ¬cond0_0 (grid0.coords t) → ¬cond0_1 (grid0.coords t) → cond0_2 (grid0.coords t) → 1 ≤ t.val ∧ t.val + 2 < 32 ∧ (t.val + 1) = t.val + 1 := by decide +kernel
/-- At the points of case C the ring takes its LAST step. -/
theorem rstep0_1_C : ∀ t : Fin grid0.N, ¬cond0_0 (grid0.coords t) → ¬cond0_1 (grid0.coords t) → ¬cond0_2 (grid0.coords t) → 1 ≤ t.val ∧ 32 ≤ t.val + 2 ∧ t.val < 32 ∧ (t.val + 1) = t.val + 1 := by decide +kernel
set_option synthInstance.maxSize 4096 in
theorem coff0_1_1 : ∀ t : Fin grid0.N, cond0_0 (grid0.coords t) → cond0_1 (grid0.coords t) → cond0_2 (grid0.coords t) → (![0, 0, 0, 0, 0] : Fin 5 → Nat) = ![(Ring.sl 3 t.val).val, 0, 0, 0, 0] := by decide +kernel
@[sl_canon] theorem canon0_1_1 (t : Fin grid0.N) (h0 : cond0_0 (grid0.coords t)) (h1 : cond0_1 (grid0.coords t)) (h2 : cond0_2 (grid0.coords t)) :
    (scM0_2.slice (Rect.unit (s := S3x4x256x4x256) ![0, 0, 0, 0, 0] S1x4x256x4x256.size inb_S3x4x256x4x256_S1x4x256x4x256_0_0_0_0_0) (fun _ => rfl)).squeeze S4x256x4x256 squeezes_S1x4x256x4x256_S4x256x4x256 = rslot0_1 (Ring.sl 3 t.val) :=
  congrArg (fun M : Memref sig .tc .vmem S1x4x256x4x256 .f32 => M.squeeze S4x256x4x256 squeezes_S1x4x256x4x256_S4x256x4x256) (Memref.slice_unit_congr _ (coff0_1_1 t h0 h1 h2) _ _ (fun _ => rfl) (fun _ => rfl))
set_option synthInstance.maxSize 4096 in
theorem coff0_1_2 : ∀ t : Fin grid0.N, cond0_0 (grid0.coords t) → cond0_1 (grid0.coords t) → cond0_2 (grid0.coords t) → (![0] : Fin 1 → Nat) = ![(Ring.sl 3 t.val).val] := by decide +kernel
@[sl_canon] theorem canon0_1_2 (t : Fin grid0.N) (h0 : cond0_0 (grid0.coords t)) (h1 : cond0_1 (grid0.coords t)) (h2 : cond0_2 (grid0.coords t)) :
    (cc0_scratch4.slice (Rect.unit (s := S3) ![0] S1.size inb_S3_S1_0)).squeeze S_ squeezes_S1_S_ = cellA0_1 (Ring.sl 3 t.val) :=
  congrArg (fun A : DmaSems sig S1 => A.squeeze S_ squeezes_S1_S_) (SemArray.slice_unit_congr _ (coff0_1_2 t h0 h1 h2) _ _)
set_option synthInstance.maxSize 4096 in
theorem coff0_1_3 : ∀ t : Fin grid0.N, cond0_0 (grid0.coords t) → cond0_1 (grid0.coords t) → cond0_2 (grid0.coords t) → (![0, 0, 0, 0] : Fin 4 → Nat) = ![4 * (Ring.bk 32 t.val).val, 0, 0, 0] := by decide +kernel
@[sl_canon] theorem canon0_1_3 (t : Fin grid0.N) (h0 : cond0_0 (grid0.coords t)) (h1 : cond0_1 (grid0.coords t)) (h2 : cond0_2 (grid0.coords t)) :
    hbM0_0.slice (Rect.unit (s := S128x256x4x256) ![0, 0, 0, 0] S4x256x4x256.size inb_S128x256x4x256_S4x256x4x256_0_0_0_0) (fun _ => rfl) = srcB0_1 (Ring.bk 32 t.val) :=
  congrArg (fun M : Memref sig .tc .hbm S4x256x4x256 .f32 => M) (Memref.slice_unit_congr _ (coff0_1_3 t h0 h1 h2) _ _ (fun _ => rfl) (fun _ => rfl))
set_option synthInstance.maxSize 4096 in
theorem coff0_1_4 : ∀ t : Fin grid0.N, cond0_0 (grid0.coords t) → cond0_1 (grid0.coords t) → cond0_2 (grid0.coords t) → (![1, 0, 0, 0, 0] : Fin 5 → Nat) = ![(Ring.sl 3 (t.val + 1)).val, 0, 0, 0, 0] := by decide +kernel
@[sl_canon] theorem canon0_1_4 (t : Fin grid0.N) (h0 : cond0_0 (grid0.coords t)) (h1 : cond0_1 (grid0.coords t)) (h2 : cond0_2 (grid0.coords t)) :
    (scM0_2.slice (Rect.unit (s := S3x4x256x4x256) ![1, 0, 0, 0, 0] S1x4x256x4x256.size inb_S3x4x256x4x256_S1x4x256x4x256_1_0_0_0_0) (fun _ => rfl)).squeeze S4x256x4x256 squeezes_S1x4x256x4x256_S4x256x4x256 = rslot0_1 (Ring.sl 3 (t.val + 1)) :=
  congrArg (fun M : Memref sig .tc .vmem S1x4x256x4x256 .f32 => M.squeeze S4x256x4x256 squeezes_S1x4x256x4x256_S4x256x4x256) (Memref.slice_unit_congr _ (coff0_1_4 t h0 h1 h2) _ _ (fun _ => rfl) (fun _ => rfl))
set_option synthInstance.maxSize 4096 in
theorem coff0_1_5 : ∀ t : Fin grid0.N, cond0_0 (grid0.coords t) → cond0_1 (grid0.coords t) → cond0_2 (grid0.coords t) → (![1] : Fin 1 → Nat) = ![(Ring.sl 3 (t.val + 1)).val] := by decide +kernel
@[sl_canon] theorem canon0_1_5 (t : Fin grid0.N) (h0 : cond0_0 (grid0.coords t)) (h1 : cond0_1 (grid0.coords t)) (h2 : cond0_2 (grid0.coords t)) :
    (cc0_scratch4.slice (Rect.unit (s := S3) ![1] S1.size inb_S3_S1_1)).squeeze S_ squeezes_S1_S_ = cellA0_1 (Ring.sl 3 (t.val + 1)) :=
  congrArg (fun A : DmaSems sig S1 => A.squeeze S_ squeezes_S1_S_) (SemArray.slice_unit_congr _ (coff0_1_5 t h0 h1 h2) _ _)
set_option synthInstance.maxSize 4096 in
theorem coff0_1_6 : ∀ t : Fin grid0.N, cond0_0 (grid0.coords t) → cond0_1 (grid0.coords t) → cond0_2 (grid0.coords t) → (![4, 0, 0, 0] : Fin 4 → Nat) = ![4 * (Ring.bk 32 (t.val + 1)).val, 0, 0, 0] := by decide +kernel
@[sl_canon] theorem canon0_1_6 (t : Fin grid0.N) (h0 : cond0_0 (grid0.coords t)) (h1 : cond0_1 (grid0.coords t)) (h2 : cond0_2 (grid0.coords t)) :
    hbM0_0.slice (Rect.unit (s := S128x256x4x256) ![4, 0, 0, 0] S4x256x4x256.size inb_S128x256x4x256_S4x256x4x256_4_0_0_0) (fun _ => rfl) = srcB0_1 (Ring.bk 32 (t.val + 1)) :=
  congrArg (fun M : Memref sig .tc .hbm S4x256x4x256 .f32 => M) (Memref.slice_unit_congr _ (coff0_1_6 t h0 h1 h2) _ _ (fun _ => rfl) (fun _ => rfl))
set_option synthInstance.maxSize 4096 in
theorem coff0_1_7 : ∀ t : Fin grid0.N, k0_off2 (grid0.coords t) = ![(Ring.sl 3 (t.val + 2)).val, 0, 0, 0, 0] := by decide +kernel
@[sl_canon] theorem canon0_1_7 (t : Fin grid0.N) (h2 : cond0_2 (grid0.coords t)) :
    (scM0_2.slice (Rect.unit (s := S3x4x256x4x256) (k0_off2 (grid0.coords t)) S1x4x256x4x256.size (k0_off2_inb (grid0.coords t) h2)) (fun _ => rfl)).squeeze S4x256x4x256 squeezes_S1x4x256x4x256_S4x256x4x256 = rslot0_1 (Ring.sl 3 (t.val + 2)) :=
  congrArg (fun M : Memref sig .tc .vmem S1x4x256x4x256 .f32 => M.squeeze S4x256x4x256 squeezes_S1x4x256x4x256_S4x256x4x256) (Memref.slice_unit_congr _ (coff0_1_7 t ) _ _ (fun _ => rfl) (fun _ => rfl))
set_option synthInstance.maxSize 4096 in
theorem coff0_1_8 : ∀ t : Fin grid0.N, k0_off1 (grid0.coords t) = ![(Ring.sl 3 (t.val + 2)).val] := by decide +kernel
@[sl_canon] theorem canon0_1_8 (t : Fin grid0.N) (h2 : cond0_2 (grid0.coords t)) :
    (cc0_scratch4.slice (Rect.unit (s := S3) (k0_off1 (grid0.coords t)) S1.size (k0_off1_inb (grid0.coords t) h2))).squeeze S_ squeezes_S1_S_ = cellA0_1 (Ring.sl 3 (t.val + 2)) :=
  congrArg (fun A : DmaSems sig S1 => A.squeeze S_ squeezes_S1_S_) (SemArray.slice_unit_congr _ (coff0_1_8 t ) _ _)
set_option synthInstance.maxSize 4096 in
theorem coff0_1_9 : ∀ t : Fin grid0.N, cond0_0 (grid0.coords t) → cond0_1 (grid0.coords t) → cond0_2 (grid0.coords t) → k0_off3 (grid0.coords t) = ![4 * (Ring.bk 32 (t.val + 2)).val, 0, 0, 0] := by decide +kernel
@[sl_canon] theorem canon0_1_9 (t : Fin grid0.N) (h0 : cond0_0 (grid0.coords t)) (h1 : cond0_1 (grid0.coords t)) (h2 : cond0_2 (grid0.coords t)) :
    hbM0_0.slice (Rect.unit (s := S128x256x4x256) (k0_off3 (grid0.coords t)) S4x256x4x256.size (k0_off3_inb (grid0.coords t) h2)) (fun _ => rfl) = srcB0_1 (Ring.bk 32 (t.val + 2)) :=
  congrArg (fun M : Memref sig .tc .hbm S4x256x4x256 .f32 => M) (Memref.slice_unit_congr _ (coff0_1_9 t h0 h1 h2) _ _ (fun _ => rfl) (fun _ => rfl))
set_option synthInstance.maxSize 4096 in
theorem coff0_1_10 : ∀ t : Fin grid0.N, k0_off5 (grid0.coords t) = ![(Ring.sl 3 t.val).val, 0, 0, 0, 0] := by decide +kernel
@[sl_canon] theorem canon0_1_10 (t : Fin grid0.N) :
    (scM0_2.slice (Rect.unit (s := S3x4x256x4x256) (k0_off5 (grid0.coords t)) S1x4x256x4x256.size (k0_off5_inb (grid0.coords t))) (fun _ => rfl)).squeeze S4x256x4x256 squeezes_S1x4x256x4x256_S4x256x4x256 = rslot0_1 (Ring.sl 3 t.val) :=
  congrArg (fun M : Memref sig .tc .vmem S1x4x256x4x256 .f32 => M.squeeze S4x256x4x256 squeezes_S1x4x256x4x256_S4x256x4x256) (Memref.slice_unit_congr _ (coff0_1_10 t ) _ _ (fun _ => rfl) (fun _ => rfl))
set_option synthInstance.maxSize 4096 in
theorem coff0_1_11 : ∀ t : Fin grid0.N, k0_off4 (grid0.coords t) = ![(Ring.sl 3 t.val).val] := by decide +kernel
@[sl_canon] theorem canon0_1_11 (t : Fin grid0.N) :
    (cc0_scratch4.slice (Rect.unit (s := S3) (k0_off4 (grid0.coords t)) S1.size (k0_off4_inb (grid0.coords t)))).squeeze S_ squeezes_S1_S_ = cellA0_1 (Ring.sl 3 t.val) :=
  congrArg (fun A : DmaSems sig S1 => A.squeeze S_ squeezes_S1_S_) (SemArray.slice_unit_congr _ (coff0_1_11 t ) _ _)
set_option synthInstance.maxSize 4096 in
theorem coff0_1_12 : ∀ t : Fin grid0.N, ¬cond0_0 (grid0.coords t) → ¬cond0_1 (grid0.coords t) → cond0_2 (grid0.coords t) → k0_off3 (grid0.coords t) = ![4 * (Ring.bk 32 (t.val + 2)).val, 0, 0, 0] := by decide +kernel
@[sl_canon] theorem canon0_1_12 (t : Fin grid0.N) (h0 : ¬cond0_0 (grid0.coords t)) (h1 : ¬cond0_1 (grid0.coords t)) (h2 : cond0_2 (grid0.coords t)) :
    hbM0_0.slice (Rect.unit (s := S128x256x4x256) (k0_off3 (grid0.coords t)) S4x256x4x256.size (k0_off3_inb (grid0.coords t) h2)) (fun _ => rfl) = srcB0_1 (Ring.bk 32 (t.val + 2)) :=
  congrArg (fun M : Memref sig .tc .hbm S4x256x4x256 .f32 => M) (Memref.slice_unit_congr _ (coff0_1_12 t h0 h1 h2) _ _ (fun _ => rfl) (fun _ => rfl))
end Canon0_1

end Cert.AttnRun

end
-- ==== Proof.AttnRuns.lean ====
/- The body of the attention call, run once per kind of grid point on any staging memrefs: the first point, that also fills
   the resident half-width copies of the two projection weights, the points that still ask for cached rows two points ahead,
   and the last two points. The prompt's tile is stated; the cached rows arrive through the ring of copies, and what is made of
   them is left open. -/
module

public import proofs.«01_k».proof.Proof.AttnRing
public import Idealize.ShloMosaic.Lib.Claim
public import Idealize.ShloMosaic.Lib.WritesUnit
public import Idealize.ShloMosaic.Lib.VecWindow

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The columns of one head in a batch element's keys or values. -/
def headOf (x : Vec F S1x256x1024 .bf16) (o : Nat) (h : ∀ a, (![0, 0, o] : Fin 3 → Nat) a + S1x256x256.size a ≤ S1x256x1024.size a) :
    Vec F S1x256x256 .bf16 := View.ld x (Rect.unit (s := S1x256x1024) ![0, 0, o] S1x256x256.size h)

/-- A tile of the prompt after the attention: from its rows, the gain, keys, values and the two weights at half width. -/
def tileOut (x0 : Vec F S1x512x1024 .f32) (x1 : Vec F S1x1024 .f32) (x3 x4 : Vec F S1x256x1024 .bf16)
    (s0 s1 : Vec F S1024x1024 .bf16) : Vec F S1x512x1024 .f32 :=
  k0_pay29 (k0_pay9 x0) (k0_pay20 (k0_pay10 x0 x1 s0) (headOf x3 768 inb_S1x256x1024_S1x256x256_0_0_768))
    (k0_pay25 (k0_pay17 (k0_pay10 x0 x1 s0) (headOf x3 0 inb_S1x256x1024_S1x256x256_0_0_0)))
    (k0_pay26 (k0_pay18 (k0_pay10 x0 x1 s0) (headOf x3 256 inb_S1x256x1024_S1x256x256_0_0_256)))
    (k0_pay27 (k0_pay19 (k0_pay10 x0 x1 s0) (headOf x3 512 inb_S1x256x1024_S1x256x256_0_0_512)))
    (k0_pay28 (k0_pay20 (k0_pay10 x0 x1 s0) (headOf x3 768 inb_S1x256x1024_S1x256x256_0_0_768)))
    (headOf x4 0 inb_S1x256x1024_S1x256x256_0_0_0) (headOf x4 256 inb_S1x256x1024_S1x256x256_0_0_256)
    (headOf x4 512 inb_S1x256x1024_S1x256x256_0_0_512) (headOf x4 768 inb_S1x256x1024_S1x256x256_0_0_768) s1

set_option maxHeartbeats 4000000 in
/-- The first point: the weights' half-width copies are filled, and copies of three blocks of cached rows are begun. -/
theorem runA (c : Dev nD) (t : Fin cfg0.N) (arg2 : Memref sig .tc .vmem S1x512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .f32) (harg7 : arg7.IsWhole) (arg8 : Memref sig .tc .vmem S4x16x256 .f32) (harg8 : arg8.IsWhole) (arg11 : Memref sig .tc .vmem S1x512x1024 .f32) (harg11 : arg11.IsWhole) (arg12 : Memref sig .tc .vmem S4x16x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (hc0 : cond0_0 (grid0.coords t)) (hc1 : cond0_1 (grid0.coords t)) (hc2 : cond0_2 (grid0.coords t))
    (x0 : Vec F S1x512x1024 .f32) (x1 : Vec F S1x1024 .f32) (x2 : Vec F S1024x1024 .f32) (x3 : Vec F S1x256x1024 .bf16) (x4 : Vec F S1x256x1024 .bf16) (x5 : Vec F S1024x1024 .f32) (x6 : Vec F S4x16x256 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ Ring.free (cellP0_0 c) (slotW0_0 c fh1) (Ring.sl 3 t.val) ∗ Ring.free (cellP0_0 c) (slotW0_0 c fh1) (Ring.sl 3 (t.val + 1)) ∗ Ring.free (cellP0_0 c) (slotW0_0 c fh1) (Ring.sl 3 (t.val + 2)) ∗ Ring.free (cellP0_1 c) (slotW0_1 c fh0) (Ring.sl 3 t.val) ∗ Ring.free (cellP0_1 c) (slotW0_1 c fh0) (Ring.sl 3 (t.val + 1)) ∗ Ring.free (cellP0_1 c) (slotW0_1 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare (tileOut x0 x1 x3 x4 (k0_pay1 x2) (k0_pay2 x5)) ∗ (∃ d, owns (c : Thread nD τ) arg12 fullShare d) ∗ (∃ d, owns (c : Thread nD τ) arg13 fullShare d) ∗ owns (c : Thread nD τ) arg14 fullShare (k0_pay1 x2) ∗ owns (c : Thread nD τ) arg15 fullShare (k0_pay2 x5) ∗ Ring.inflight (flightW0_0 c fh1) (Ring.sl 3 (t.val + 1)) (Ring.bk 32 (t.val + 1)) ∗ Ring.inflight (flightW0_0 c fh1) (Ring.sl 3 (t.val + 2)) (Ring.bk 32 (t.val + 2)) ∗ Ring.free (cellP0_0 c) (slotW0_0 c fh1) (Ring.sl 3 t.val) ∗ Ring.inflight (flightW0_1 c fh0) (Ring.sl 3 (t.val + 1)) (Ring.bk 32 (t.val + 1)) ∗ Ring.inflight (flightW0_1 c fh0) (Ring.sl 3 (t.val + 2)) (Ring.bk 32 (t.val + 2)) ∗ Ring.free (cellP0_1 c) (slotW0_1 c fh0) (Ring.sl 3 t.val) ∗ (∃ W', owes (c : Thread nD τ) 0 W')) -∗ K ⟨⟩))
          ⊢ wp frame (wpE (defs₀ (F := F)) Variants.none c none) Set.univ (cc0_attn (grid0.coords t) arg2 harg2 arg3 harg3 arg4 harg4 arg5 harg5 arg6 harg6 arg7 harg7 arg8 harg8 (Memref.whole main_arg7) (Memref.isWhole_whole _) (Memref.whole main_arg8) (Memref.isWhole_whole _) arg11 harg11 arg12 harg12 arg13 harg13 arg14 harg14 arg15 harg15 scM0_2 (Memref.isWhole_whole _) scM0_3 (Memref.isWhole_whole _) cc0_scratch4 cc0_scratch5) K := by
    intro W K
    haveI : Fact (cond0_0 (grid0.coords t)) := ⟨hc0⟩
    haveI : Fact (cond0_1 (grid0.coords t)) := ⟨hc1⟩
    haveI : Fact (cond0_2 (grid0.coords t)) := ⟨hc2⟩
    simp only [cc0_attn_eq_skeleton]; unfold cc0_attn_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    have hcanon6 := canon0_0_10 t
    have hcanon7 := canon0_1_1 t hc0 hc1 hc2
    have hcanon8 := canon0_1_2 t hc0 hc1 hc2
    have hcanon9 := canon0_1_3 t hc0 hc1 hc2
    have hcanon10 := canon0_1_4 t hc0 hc1 hc2
    have hcanon11 := canon0_1_5 t hc0 hc1 hc2
    have hcanon12 := canon0_1_6 t hc0 hc1 hc2
    have hcanon13 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (src0_0_split c fh1 (Ring.sl 3 t.val) (Ring.bk 32 t.val)).1 $$ Hw0_0_0
    icases Hsp0_0_0 with ⟨Hh0_0_0, Hr0_0_0⟩
    ihave Hsp0_0_1 := (src0_0_split c fh1 (Ring.sl 3 (t.val + 1)) (Ring.bk 32 (t.val + 1))).1 $$ Hw0_0_1
    icases Hsp0_0_1 with ⟨Hh0_0_1, Hr0_0_1⟩
    ihave Hsp0_0_2 := (src0_0_split c fh1 (Ring.sl 3 (t.val + 2)) (Ring.bk 32 (t.val + 2))).1 $$ Hw0_0_2
    icases Hsp0_0_2 with ⟨Hh0_0_2, Hr0_0_2⟩
    ihave Hsp0_1_0 := (src0_1_split c fh0 (Ring.sl 3 t.val) (Ring.bk 32 t.val)).1 $$ Hw0_1_0
    icases Hsp0_1_0 with ⟨Hh0_1_0, Hr0_1_0⟩
    ihave Hsp0_1_1 := (src0_1_split c fh0 (Ring.sl 3 (t.val + 1)) (Ring.bk 32 (t.val + 1))).1 $$ Hw0_1_1
    icases Hsp0_1_1 with ⟨Hh0_1_1, Hr0_1_1⟩
    ihave Hsp0_1_2 := (src0_1_split c fh0 (Ring.sl 3 (t.val + 2)) (Ring.bk 32 (t.val + 2))).1 $$ Hw0_1_2
    icases Hsp0_1_2 with ⟨Hh0_1_2, Hr0_1_2⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (View.read_writes_full _ _ _ _ _).trans ?_
      show tileOut (View.readAt (Elt F) arg2.view (Rect.unit ![0, 0, 0] S1x512x1024.size inb_S1x512x1024_S1x512x1024_0_0_0).toLoadRect (harg2.unread x0))
        (View.readAt (Elt F) arg3.view (Rect.unit ![0, 0] S1x1024.size inb_S1x1024_S1x1024_0_0).toLoadRect (harg3.unread x1))
        (View.read (Elt F) arg5.view (harg5.unread x3)) (View.read (Elt F) arg6.view (harg6.unread x4))
        (View.readAt (Elt F) arg14.view (Rect.unit ![0, 0] S1024x1024.size inb_S1024x1024_S1024x1024_0_0).toLoadRect _)
        (View.readAt (Elt F) arg15.view (Rect.unit ![0, 0] S1024x1024.size inb_S1024x1024_S1024x1024_0_0).toLoadRect _) = _
      rw [View.readAt_full arg2.view (harg2.unread x0), harg2.read_unread, View.readAt_full arg3.view (harg3.unread x1), harg3.read_unread, harg5.read_unread, harg6.read_unread]
      rw [View.readAt_full arg14.view, View.readAt_full arg15.view]
      refine congrArg₂ (tileOut x0 x1 x3 x4) ?_ ?_
      · refine (View.read_writes_full _ _ _ _ _).trans ?_
        rw [View.readAt_full arg4.view (harg4.unread x2), harg4.read_unread]
      refine (View.read_writes_full _ _ _ _ _).trans ?_
      rw [View.readAt_full arg7.view (harg7.unread x5), harg7.read_unread]
    isplitl [H8]
    · iexists _, _; isplitr; swap; · iexact H8
      ipureintro; rfl
    isplitl [H9]
    · iexists _, _; isplitr; swap; · iexact H9
      ipureintro; rfl
    isplitl [HS0]
    · iexists _; isplitr; swap; · iexact HS0
      ipureintro
      refine (View.read_writes_full _ _ _ _ _).trans ?_
      rw [View.readAt_full arg4.view (harg4.unread x2), harg4.read_unread]
    isplitl [HS1]
    · iexists _; isplitr; swap; · iexact HS1
      ipureintro
      refine (View.read_writes_full _ _ _ _ _).trans ?_
      rw [View.readAt_full arg7.view (harg7.unread x5), harg7.read_unread]
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh1 (Ring.sl 3 t.val) (Ring.bk 32 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh0 (Ring.sl 3 t.val) (Ring.bk 32 t.val)).2; isplitl [Hh0_1_0]; · iexact Hh0_1_0
      iexact Hr0_1_0
    iexists _; iexact HW

set_option maxHeartbeats 4000000 in
/-- A point between: the copy two points ahead is begun, this point's is waited for. -/
theorem runB (c : Dev nD) (t : Fin cfg0.N) (arg2 : Memref sig .tc .vmem S1x512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .f32) (harg7 : arg7.IsWhole) (arg8 : Memref sig .tc .vmem S4x16x256 .f32) (harg8 : arg8.IsWhole) (arg11 : Memref sig .tc .vmem S1x512x1024 .f32) (harg11 : arg11.IsWhole) (arg12 : Memref sig .tc .vmem S4x16x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (hc0 : ¬cond0_0 (grid0.coords t)) (hc1 : ¬cond0_1 (grid0.coords t)) (hc2 : cond0_2 (grid0.coords t))
    (x0 : Vec F S1x512x1024 .f32) (x1 : Vec F S1x1024 .f32) (x2 : Vec F S1024x1024 .f32) (x3 : Vec F S1x256x1024 .bf16) (x4 : Vec F S1x256x1024 .bf16) (x5 : Vec F S1024x1024 .f32) (x6 : Vec F S4x16x256 .f32) (s0 s1 : Vec F S1024x1024 .bf16) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s0 ∗ owns (c : Thread nD τ) arg15 fullShare s1 ∗ Ring.inflight (flightW0_0 c fh1) (Ring.sl 3 t.val) (Ring.bk 32 t.val) ∗ Ring.inflight (flightW0_0 c fh1) (Ring.sl 3 (t.val + 1)) (Ring.bk 32 (t.val + 1)) ∗ Ring.free (cellP0_0 c) (slotW0_0 c fh1) (Ring.sl 3 (t.val + 2)) ∗ Ring.inflight (flightW0_1 c fh0) (Ring.sl 3 t.val) (Ring.bk 32 t.val) ∗ Ring.inflight (flightW0_1 c fh0) (Ring.sl 3 (t.val + 1)) (Ring.bk 32 (t.val + 1)) ∗ Ring.free (cellP0_1 c) (slotW0_1 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare (tileOut x0 x1 x3 x4 s0 s1) ∗ (∃ d, owns (c : Thread nD τ) arg12 fullShare d) ∗ (∃ d, owns (c : Thread nD τ) arg13 fullShare d) ∗ owns (c : Thread nD τ) arg14 fullShare s0 ∗ owns (c : Thread nD τ) arg15 fullShare s1 ∗ Ring.inflight (flightW0_0 c fh1) (Ring.sl 3 (t.val + 1)) (Ring.bk 32 (t.val + 1)) ∗ Ring.inflight (flightW0_0 c fh1) (Ring.sl 3 (t.val + 2)) (Ring.bk 32 (t.val + 2)) ∗ Ring.free (cellP0_0 c) (slotW0_0 c fh1) (Ring.sl 3 t.val) ∗ Ring.inflight (flightW0_1 c fh0) (Ring.sl 3 (t.val + 1)) (Ring.bk 32 (t.val + 1)) ∗ Ring.inflight (flightW0_1 c fh0) (Ring.sl 3 (t.val + 2)) (Ring.bk 32 (t.val + 2)) ∗ Ring.free (cellP0_1 c) (slotW0_1 c fh0) (Ring.sl 3 t.val) ∗ (∃ W', owes (c : Thread nD τ) 0 W')) -∗ K ⟨⟩))
          ⊢ wp frame (wpE (defs₀ (F := F)) Variants.none c none) Set.univ (cc0_attn (grid0.coords t) arg2 harg2 arg3 harg3 arg4 harg4 arg5 harg5 arg6 harg6 arg7 harg7 arg8 harg8 (Memref.whole main_arg7) (Memref.isWhole_whole _) (Memref.whole main_arg8) (Memref.isWhole_whole _) arg11 harg11 arg12 harg12 arg13 harg13 arg14 harg14 arg15 harg15 scM0_2 (Memref.isWhole_whole _) scM0_3 (Memref.isWhole_whole _) cc0_scratch4 cc0_scratch5) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_attn_eq_skeleton]; unfold cc0_attn_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon0 := canon0_0_10 t
    have hcanon1 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (src0_0_split c fh1 (Ring.sl 3 (t.val + 2)) (Ring.bk 32 (t.val + 2))).1 $$ Hw0_0_2
    icases Hsp0_0_2 with ⟨Hh0_0_2, Hr0_0_2⟩
    ihave Hsp0_1_2 := (src0_1_split c fh0 (Ring.sl 3 (t.val + 2)) (Ring.bk 32 (t.val + 2))).1 $$ Hw0_1_2
    icases Hsp0_1_2 with ⟨Hh0_1_2, Hr0_1_2⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0; obtain rfl := harg15.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (View.read_writes_full _ _ _ _ _).trans ?_
      show tileOut (View.readAt (Elt F) arg2.view (Rect.unit ![0, 0, 0] S1x512x1024.size inb_S1x512x1024_S1x512x1024_0_0_0).toLoadRect (harg2.unread x0))
        (View.readAt (Elt F) arg3.view (Rect.unit ![0, 0] S1x1024.size inb_S1x1024_S1x1024_0_0).toLoadRect (harg3.unread x1))
        (View.read (Elt F) arg5.view (harg5.unread x3)) (View.read (Elt F) arg6.view (harg6.unread x4))
        (View.readAt (Elt F) arg14.view (Rect.unit ![0, 0] S1024x1024.size inb_S1024x1024_S1024x1024_0_0).toLoadRect (harg14.unread s0))
        (View.readAt (Elt F) arg15.view (Rect.unit ![0, 0] S1024x1024.size inb_S1024x1024_S1024x1024_0_0).toLoadRect (harg15.unread s1)) = _
      rw [View.readAt_full arg2.view (harg2.unread x0), harg2.read_unread, View.readAt_full arg3.view (harg3.unread x1), harg3.read_unread, harg5.read_unread, harg6.read_unread]
      rw [View.readAt_full arg14.view (harg14.unread s0), harg14.read_unread, View.readAt_full arg15.view (harg15.unread s1), harg15.read_unread]
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg14.read_unread _
      iexact HS0
    isplitl [HS1]
    · iexists _; isplitr; · ipureintro; exact harg15.read_unread _
      iexact HS1
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh1 (Ring.sl 3 t.val) (Ring.bk 32 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh0 (Ring.sl 3 t.val) (Ring.bk 32 t.val)).2; isplitl [Hf0_1_0_src]; · iexact Hf0_1_0_src
      iexact Hrf0_1_0
    iexists _; iexact HW

set_option maxHeartbeats 4000000 in
/-- One of the last two points: this point's copy is waited for. -/
theorem runC (c : Dev nD) (t : Fin cfg0.N) (arg2 : Memref sig .tc .vmem S1x512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1024x1024 .f32) (harg7 : arg7.IsWhole) (arg8 : Memref sig .tc .vmem S4x16x256 .f32) (harg8 : arg8.IsWhole) (arg11 : Memref sig .tc .vmem S1x512x1024 .f32) (harg11 : arg11.IsWhole) (arg12 : Memref sig .tc .vmem S4x16x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (hc0 : ¬cond0_0 (grid0.coords t)) (hc1 : ¬cond0_1 (grid0.coords t)) (hc2 : ¬cond0_2 (grid0.coords t))
    (x0 : Vec F S1x512x1024 .f32) (x1 : Vec F S1x1024 .f32) (x2 : Vec F S1024x1024 .f32) (x3 : Vec F S1x256x1024 .bf16) (x4 : Vec F S1x256x1024 .bf16) (x5 : Vec F S1024x1024 .f32) (x6 : Vec F S4x16x256 .f32) (s0 s1 : Vec F S1024x1024 .bf16) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s0 ∗ owns (c : Thread nD τ) arg15 fullShare s1 ∗ Ring.inflight (flightW0_0 c fh1) (Ring.sl 3 t.val) (Ring.bk 32 t.val) ∗ Ring.slotAt 2 (cellP0_0 c) (slotW0_0 c fh1) (flightW0_0 c fh1) t.val 1 ∗ Ring.free (cellP0_0 c) (slotW0_0 c fh1) (Ring.sl 3 (t.val + 2)) ∗ Ring.inflight (flightW0_1 c fh0) (Ring.sl 3 t.val) (Ring.bk 32 t.val) ∗ Ring.slotAt 2 (cellP0_1 c) (slotW0_1 c fh0) (flightW0_1 c fh0) t.val 1 ∗ Ring.free (cellP0_1 c) (slotW0_1 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare (tileOut x0 x1 x3 x4 s0 s1) ∗ (∃ d, owns (c : Thread nD τ) arg12 fullShare d) ∗ (∃ d, owns (c : Thread nD τ) arg13 fullShare d) ∗ owns (c : Thread nD τ) arg14 fullShare s0 ∗ owns (c : Thread nD τ) arg15 fullShare s1 ∗ Ring.slotAt 2 (cellP0_0 c) (slotW0_0 c fh1) (flightW0_0 c fh1) t.val 1 ∗ Ring.free (cellP0_0 c) (slotW0_0 c fh1) (Ring.sl 3 (t.val + 2)) ∗ Ring.free (cellP0_0 c) (slotW0_0 c fh1) (Ring.sl 3 t.val) ∗ Ring.slotAt 2 (cellP0_1 c) (slotW0_1 c fh0) (flightW0_1 c fh0) t.val 1 ∗ Ring.free (cellP0_1 c) (slotW0_1 c fh0) (Ring.sl 3 (t.val + 2)) ∗ Ring.free (cellP0_1 c) (slotW0_1 c fh0) (Ring.sl 3 t.val) ∗ (∃ W', owes (c : Thread nD τ) 0 W')) -∗ K ⟨⟩))
          ⊢ wp frame (wpE (defs₀ (F := F)) Variants.none c none) Set.univ (cc0_attn (grid0.coords t) arg2 harg2 arg3 harg3 arg4 harg4 arg5 harg5 arg6 harg6 arg7 harg7 arg8 harg8 (Memref.whole main_arg7) (Memref.isWhole_whole _) (Memref.whole main_arg8) (Memref.isWhole_whole _) arg11 harg11 arg12 harg12 arg13 harg13 arg14 harg14 arg15 harg15 scM0_2 (Memref.isWhole_whole _) scM0_3 (Memref.isWhole_whole _) cc0_scratch4 cc0_scratch5) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_attn_eq_skeleton]; unfold cc0_attn_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon0 := canon0_0_10 t
    have hcanon1 := canon0_1_10 t
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0; obtain rfl := harg15.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (View.read_writes_full _ _ _ _ _).trans ?_
      show tileOut (View.readAt (Elt F) arg2.view (Rect.unit ![0, 0, 0] S1x512x1024.size inb_S1x512x1024_S1x512x1024_0_0_0).toLoadRect (harg2.unread x0))
        (View.readAt (Elt F) arg3.view (Rect.unit ![0, 0] S1x1024.size inb_S1x1024_S1x1024_0_0).toLoadRect (harg3.unread x1))
        (View.read (Elt F) arg5.view (harg5.unread x3)) (View.read (Elt F) arg6.view (harg6.unread x4))
        (View.readAt (Elt F) arg14.view (Rect.unit ![0, 0] S1024x1024.size inb_S1024x1024_S1024x1024_0_0).toLoadRect (harg14.unread s0))
        (View.readAt (Elt F) arg15.view (Rect.unit ![0, 0] S1024x1024.size inb_S1024x1024_S1024x1024_0_0).toLoadRect (harg15.unread s1)) = _
      rw [View.readAt_full arg2.view (harg2.unread x0), harg2.read_unread, View.readAt_full arg3.view (harg3.unread x1), harg3.read_unread, harg5.read_unread, harg6.read_unread]
      rw [View.readAt_full arg14.view (harg14.unread s0), harg14.read_unread, View.readAt_full arg15.view (harg15.unread s1), harg15.read_unread]
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg14.read_unread _
      iexact HS0
    isplitl [HS1]
    · iexists _; isplitr; · ipureintro; exact harg15.read_unread _
      iexact HS1
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh1 (Ring.sl 3 t.val) (Ring.bk 32 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh0 (Ring.sl 3 t.val) (Ring.bk 32 t.val)).2; isplitl [Hf0_1_0_src]; · iexact Hf0_1_0_src
      iexact Hrf0_1_0
    iexists _; iexact HW

end Cert.AttnRun

end
-- ==== Proof.AttnFrame.lean ====
/- The attention call over all its grid points: what is held between the points (the two weights at half width in their
   resident buffers from the second point on, the ring of copied cached rows), the body at every point, the launch, and that
   the arguments end unchanged. The prompt's rows are stated; the two other arrays of the call are left open. -/
module

public import proofs.«01_k».proof.Proof.AttnRuns
public import Idealize.ShloMosaic.Lib.Pipeline.FrameBody
public import Idealize.ShloMosaic.Lib.Claim

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first grid point. -/
def pt0 : Fin cfg0.N := ⟨0, by decide⟩

/-- The query weight at half width, as the first point leaves it. -/
def WQ (c : Dev nD) : Vec F S1024x1024 .bf16 := k0_pay1 (iblk m c 2 pt0)
/-- The output weight at half width, as the first point leaves it. -/
def WO (c : Dev nD) : Vec F S1024x1024 .bf16 := k0_pay2 (iblk m c 5 pt0)

theorem liveAt0_7 : ∀ t : Fin cfg0.N, cfg0.idle 7 (grid0.coords t) = false := fun _ => rfl

/-- What is held before point `k`: the two resident weights (from the second point on at their known contents), the generator register, and the two rings of copied rows. -/
def PhiR (c : Dev nD) (k : ℕ) : sProp 𝕄 := iprop((∃ d, ⌜0 < k → d = WQ m c⌝ ∗ owns (c : Thread nD τ) scM0_0 fullShare d) ∗ (∃ d, ⌜0 < k → d = WO m c⌝ ∗ owns (c : Thread nD τ) scM0_1 fullShare d) ∗ (∃ r, prngReg c r) ∗ ringAt0_0 c (V m c main_arg8) k ∗ ringAt0_1 c (V m c main_arg7) k)

/-- The two windows nothing is said of: the samples' heads and the handed-on weight. -/
def forgets0 : Fin 10 → Bool := fun w => w.val == 8 || w.val == 9

/-- What each window's buffer holds after a point: the inputs their blocks, the prompt's window its tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileOut (iblk m c 0 t) (iblk m c 1 t) (iblk m c 3 t) (iblk m c 4 t) (WQ m c) (WO m c)
    | ⟨8, h⟩ => Pipeline.Dat.unnamed (cfg := cfg0) ⟨8, h⟩ t
    | ⟨9, h⟩ => Pipeline.Dat.unnamed (cfg := cfg0) ⟨9, h⟩ t
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = tileOut (iblk m c 0 t) (iblk m c 1 t) (iblk m c 3 t) (iblk m c 4 t) (WQ m c) (WO m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- What the body gives back at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 3600000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 32 := N_0
  have hN : t.val < 32 := lt_of_lt_of_eq t.isLt (show cfg0.N = 32 from N_0)
  by_cases h0 : t.val % 32 = 0
  · by_cases h1 : t.val % 32 = 0
    · by_cases h2 : t.val < 30
      · rw [show (dats m 0 c).leavesExact 0 t = owns (c : Thread nD τ) (ms0_0 t) fullShare ((dats m 0 c).after 0 t) from by
            unfold Dat.leavesExact; rw [liveAt0_0 t], after0_0]
        rw [show (dats m 0 c).leavesExact 1 t = owns (c : Thread nD τ) (ms0_1 t) fullShare ((dats m 0 c).after 1 t) from by
            unfold Dat.leavesExact; rw [liveAt0_1 t], after0_1]
        rw [show (dats m 0 c).leavesExact 2 t = owns (c : Thread nD τ) (ms0_2 t) fullShare ((dats m 0 c).after 2 t) from by
            unfold Dat.leavesExact; rw [liveAt0_2 t], after0_2]
        rw [show (dats m 0 c).leavesExact 3 t = owns (c : Thread nD τ) (ms0_3 t) fullShare ((dats m 0 c).after 3 t) from by
            unfold Dat.leavesExact; rw [liveAt0_3 t], after0_3]
        rw [show (dats m 0 c).leavesExact 4 t = owns (c : Thread nD τ) (ms0_4 t) fullShare ((dats m 0 c).after 4 t) from by
            unfold Dat.leavesExact; rw [liveAt0_4 t], after0_4]
        rw [show (dats m 0 c).leavesExact 5 t = owns (c : Thread nD τ) (ms0_5 t) fullShare ((dats m 0 c).after 5 t) from by
            unfold Dat.leavesExact; rw [liveAt0_5 t], after0_5]
        rw [show (dats m 0 c).leavesExact 6 t = owns (c : Thread nD τ) (ms0_6 t) fullShare ((dats m 0 c).after 6 t) from by
            unfold Dat.leavesExact; rw [liveAt0_6 t], after0_6]
        rw [show (dats m 0 c).leavesExact 7 t = owns (c : Thread nD τ) (ms0_7 t) fullShare ((dats m 0 c).after 7 t) from by
            unfold Dat.leavesExact; rw [liveAt0_7 t], after0_7]
        have hr0 := rstep0_0_A t ((hcond0_0 t).mpr h0) ((hcond0_1 t).mpr h1) ((hcond0_2 t).mpr h2)
        obtain ⟨hK00, hK10⟩ := hr0
        rw [if_pos hK00, if_neg (show ¬t.val + 1 = 0 by omega)]
        rw [Ring.At₀_eq3' _ _ _ t.val hK00 (by decide : 3 ≤ 32), Ring.At3_one' _ _ _ _ t.val hK00 (by decide : 3 ≤ 32)]
        have hr1 := rstep0_1_A t ((hcond0_0 t).mpr h0) ((hcond0_1 t).mpr h1) ((hcond0_2 t).mpr h2)
        obtain ⟨hK01, hK11⟩ := hr1
        rw [if_pos hK01, if_neg (show ¬t.val + 1 = 0 by omega)]
        rw [Ring.At₀_eq3' _ _ _ t.val hK01 (by decide : 3 ≤ 32), Ring.At3_one' _ _ _ _ t.val hK01 (by decide : 3 ≤ 32)]
        have ht : t = pt0 := Fin.ext hK00
        have hq : WQ m c = k0_pay1 (iblk m c 2 t) := by unfold WQ; rw [ht]
        have ho : WO m c = k0_pay2 (iblk m c 5 t) := by unfold WO; rw [ht]
        rw [hq, ho]
        iintro ⟨⟨⟨%e0, -, HS0⟩, ⟨%e1, -, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA c t _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (V m c main_arg7) (V m c main_arg8)) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexists _; iexact HS0
        isplitl [HS1]; · iexists _; iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, H3, H4, H5, H6, H7, H8, H9, HS0, HS1, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0]
          · iexists _; isplitr; swap; · iexact HS0
            ipureintro; exact fun _ => rfl
          isplitl [HS1]
          · iexists _; isplitr; swap; · iexact HS1
            ipureintro; exact fun _ => rfl
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · exfalso; omega
    · exfalso; omega
  · by_cases h1 : t.val % 32 = 0
    · exfalso; omega
    · by_cases h2 : t.val < 30
      · rw [show (dats m 0 c).leavesExact 0 t = owns (c : Thread nD τ) (ms0_0 t) fullShare ((dats m 0 c).after 0 t) from by
            unfold Dat.leavesExact; rw [liveAt0_0 t], after0_0]
        rw [show (dats m 0 c).leavesExact 1 t = owns (c : Thread nD τ) (ms0_1 t) fullShare ((dats m 0 c).after 1 t) from by
            unfold Dat.leavesExact; rw [liveAt0_1 t], after0_1]
        rw [show (dats m 0 c).leavesExact 2 t = owns (c : Thread nD τ) (ms0_2 t) fullShare ((dats m 0 c).after 2 t) from by
            unfold Dat.leavesExact; rw [liveAt0_2 t], after0_2]
        rw [show (dats m 0 c).leavesExact 3 t = owns (c : Thread nD τ) (ms0_3 t) fullShare ((dats m 0 c).after 3 t) from by
            unfold Dat.leavesExact; rw [liveAt0_3 t], after0_3]
        rw [show (dats m 0 c).leavesExact 4 t = owns (c : Thread nD τ) (ms0_4 t) fullShare ((dats m 0 c).after 4 t) from by
            unfold Dat.leavesExact; rw [liveAt0_4 t], after0_4]
        rw [show (dats m 0 c).leavesExact 5 t = owns (c : Thread nD τ) (ms0_5 t) fullShare ((dats m 0 c).after 5 t) from by
            unfold Dat.leavesExact; rw [liveAt0_5 t], after0_5]
        rw [show (dats m 0 c).leavesExact 6 t = owns (c : Thread nD τ) (ms0_6 t) fullShare ((dats m 0 c).after 6 t) from by
            unfold Dat.leavesExact; rw [liveAt0_6 t], after0_6]
        rw [show (dats m 0 c).leavesExact 7 t = owns (c : Thread nD τ) (ms0_7 t) fullShare ((dats m 0 c).after 7 t) from by
            unfold Dat.leavesExact; rw [liveAt0_7 t], after0_7]
        have hr0 := rstep0_0_B t (fun h => h0 ((hcond0_0 t).mp h)) (fun h => h1 ((hcond0_1 t).mp h)) ((hcond0_2 t).mpr h2)
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        have hr1 := rstep0_1_B t (fun h => h0 ((hcond0_0 t).mp h)) (fun h => h1 ((hcond0_1 t).mp h)) ((hcond0_2 t).mpr h2)
        obtain ⟨hK11, hKB1, hKs1⟩ := hr1
        rw [if_neg (show ¬t.val = 0 by omega), if_neg (show ¬t.val + 1 = 0 by omega)]
        rw [Ring.At3_here _ _ _ _ t.val hKB1, Ring.At3_next _ _ _ _ t.val hKB1, Ring.slotAt3_next0 _ _ _ t.val (by omega), Ring.slotAt3_next1 _ _ _ t.val hKB1]
        iintro ⟨⟨⟨%e0, %he0, HS0⟩, ⟨%e1, %he1, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain rfl := he0 (Nat.pos_of_ne_zero (by omega))
        obtain rfl := he1 (Nat.pos_of_ne_zero (by omega))
        iapply ((runB c t _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (WQ m c) (WO m c) (V m c main_arg7) (V m c main_arg8)) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, H3, H4, H5, H6, H7, H8, H9, HS0, HS1, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0]
          · iexists _; isplitr; swap; · iexact HS0
            ipureintro; exact fun _ => rfl
          isplitl [HS1]
          · iexists _; isplitr; swap; · iexact HS1
            ipureintro; exact fun _ => rfl
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [show (dats m 0 c).leavesExact 0 t = owns (c : Thread nD τ) (ms0_0 t) fullShare ((dats m 0 c).after 0 t) from by
            unfold Dat.leavesExact; rw [liveAt0_0 t], after0_0]
        rw [show (dats m 0 c).leavesExact 1 t = owns (c : Thread nD τ) (ms0_1 t) fullShare ((dats m 0 c).after 1 t) from by
            unfold Dat.leavesExact; rw [liveAt0_1 t], after0_1]
        rw [show (dats m 0 c).leavesExact 2 t = owns (c : Thread nD τ) (ms0_2 t) fullShare ((dats m 0 c).after 2 t) from by
            unfold Dat.leavesExact; rw [liveAt0_2 t], after0_2]
        rw [show (dats m 0 c).leavesExact 3 t = owns (c : Thread nD τ) (ms0_3 t) fullShare ((dats m 0 c).after 3 t) from by
            unfold Dat.leavesExact; rw [liveAt0_3 t], after0_3]
        rw [show (dats m 0 c).leavesExact 4 t = owns (c : Thread nD τ) (ms0_4 t) fullShare ((dats m 0 c).after 4 t) from by
            unfold Dat.leavesExact; rw [liveAt0_4 t], after0_4]
        rw [show (dats m 0 c).leavesExact 5 t = owns (c : Thread nD τ) (ms0_5 t) fullShare ((dats m 0 c).after 5 t) from by
            unfold Dat.leavesExact; rw [liveAt0_5 t], after0_5]
        rw [show (dats m 0 c).leavesExact 6 t = owns (c : Thread nD τ) (ms0_6 t) fullShare ((dats m 0 c).after 6 t) from by
            unfold Dat.leavesExact; rw [liveAt0_6 t], after0_6]
        rw [show (dats m 0 c).leavesExact 7 t = owns (c : Thread nD τ) (ms0_7 t) fullShare ((dats m 0 c).after 7 t) from by
            unfold Dat.leavesExact; rw [liveAt0_7 t], after0_7]
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        have hr1 := rstep0_1_C t (fun h => h0 ((hcond0_0 t).mp h)) (fun h => h1 ((hcond0_1 t).mp h)) (fun h => h2 ((hcond0_2 t).mp h))
        obtain ⟨hK11, hKB1, hKlt1, hKs1⟩ := hr1
        rw [if_neg (show ¬t.val = 0 by omega), if_neg (show ¬t.val + 1 = 0 by omega)]
        rw [Ring.At3_here_tail _ _ _ _ t.val hKlt1, Ring.At3_next_tail _ _ _ _ t.val hKB1 hKlt1, Ring.slotAt3_tail_role _ _ _ t.val]
        iintro ⟨⟨⟨%e0, %he0, HS0⟩, ⟨%e1, %he1, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain rfl := he0 (Nat.pos_of_ne_zero (by omega))
        obtain rfl := he1 (Nat.pos_of_ne_zero (by omega))
        iapply ((runC c t _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (WQ m c) (WO m c) (V m c main_arg7) (V m c main_arg8)) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, H3, H4, H5, H6, H7, H8, H9, HS0, HS1, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0]
          · iexists _; isplitr; swap; · iexact HS0
            ipureintro; exact fun _ => rfl
          isplitl [HS1]
          · iexists _; isplitr; swap; · iexact HS1
            ipureintro; exact fun _ => rfl
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch gives is what is held before the first point. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨⟨%e0, HS0⟩, ⟨%e1, HS1⟩, HR0_1, HR0_0⟩, Hg, ⟨Hq0, Hq1, Hq2, Hq3, Hq4, Hq5⟩, ⟨Hh0, Hh1⟩⟩
  isplitl [HS0]
  · iexists e0; isplitr; · ipureintro; exact fun h => absurd h (Nat.lt_irrefl 0)
    iexact HS0
  isplitl [HS1]
  · iexists e1; isplitr; · ipureintro; exact fun h => absurd h (Nat.lt_irrefl 0)
    iexact HS1
  isplitl [Hg]; · iexact Hg
  isplitl [HR0_0 Hq3 Hq4 Hq5 Hh1]
  · iapply (ring0_0_in (F := F) m c)
    isplitl [HR0_0]; · iexact HR0_0
    isplitl [Hq3 Hq4 Hq5]
    · isplitl [Hq3]; · iexact Hq3
      isplitl [Hq4]; · iexact Hq4
      iexact Hq5
    iexact Hh1
  iapply (ring0_1_in (F := F) m c)
  isplitl [HR0_1]; · iexact HR0_1
  isplitl [Hq0 Hq1 Hq2]
  · isplitl [Hq0]; · iexact Hq0
    isplitl [Hq1]; · iexact Hq1
    iexact Hq2
  iexact Hh0
/-- What is held after the last point is what the launch takes back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 32 by rw [N_0]]
  iintro ⟨⟨%e0, -, HS0⟩, ⟨%e1, -, HS1⟩, Hg, HR0_0, HR0_1⟩
  ihave HX0_0 := (ring0_0_out (F := F) m c) $$ HR0_0
  icases HX0_0 with ⟨HR0_0, ⟨Hq3, Hq4, Hq5⟩, Hh1⟩
  ihave HX0_1 := (ring0_1_out (F := F) m c) $$ HR0_1
  icases HX0_1 with ⟨HR0_1, ⟨Hq0, Hq1, Hq2⟩, Hh0⟩
  isplitl [HS0 HS1 HR0_1 HR0_0]
  · isplitl [HS0]; · iexists e0; iexact HS0
    isplitl [HS1]; · iexists e1; iexact HS1
    isplitl [HR0_1]; · iexact HR0_1
    iexact HR0_0
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with the prompt's array at what the points left in it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The prompt's array at the end, from the launch's own statement. -/
theorem out7 (r : PUnit × MemSt nD τ sig (Elt F)) (h : Pipeline.RDat.FramePost (cfgs 0) (fun c => (dats m 0 c).toRForget forgets0) (V m) r)
    (c : Dev nD) (w : Fin cfg0.W) (hw : forgets0 w = false) :
    r.2.mem ((cfg0.spec w).arr.view.loc (c.tc : Thread nD τ)) = (dats m 0 c).arrAt w cfg0.N :=
  ((dats m 0 c).toRForget_arrAt_iff hw _ _).mp ((h c).1 w)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AttnRun

end
-- ==== Proof.FfnRuns.lean ====
/- The body of the first feed-forward kernel, run once per kind of grid point on any staging memrefs: the points that
   copy a slab of each weight into the resident half-width copies, the points that work on a tile of the prompt, and the
   last point, that works on the sample rows. -/
module

public import proofs.«01_k».proof.Proof.Gen.FfnIdeal.Frame
public import proofs.«01_k».proof.Proof.Gen.FfnIdeal.Skeleton
public import Idealize.ShloMosaic.Lib.Claim
public import Idealize.ShloMosaic.Lib.WritesUnit
public import Idealize.ShloMosaic.Lib.VecWindow

@[expose] public section

set_option maxRecDepth 16384

noncomputable section

/-- `d` is `s` with the `W` rows from row `o` on replaced by `w`. -/
def Slab {α : Type} {R W C : ℕ} (o : ℕ) (w : (⟨2, ![W, C]⟩ : Idealize.ShloMosaic.Shape).Idx → α)
    (s d : (⟨2, ![R, C]⟩ : Idealize.ShloMosaic.Shape).Idx → α) : Prop :=
  (∀ (y : (⟨2, ![R, C]⟩ : Idealize.ShloMosaic.Shape).Idx) (x : (⟨2, ![W, C]⟩ : Idealize.ShloMosaic.Shape).Idx),
      (y 0).val = o + (x 0).val → (y 1).val = (x 1).val → d y = w x)
    ∧ ∀ y : (⟨2, ![R, C]⟩ : Idealize.ShloMosaic.Shape).Idx, ((y 0).val < o ∨ o + W ≤ (y 0).val) → d y = s y

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Facts of the grid -/

theorem copies : ∀ t : Fin cfg0.N, k0_cond1 (grid0.coords t) = 1#1 ↔ t.val < 16 :=
  (by decide +kernel : ∀ t : Fin grid0.N, k0_cond1 (grid0.coords t) = 1#1 ↔ t.val < 16)
theorem prompts : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem samples : ∀ t : Fin cfg0.N, k0_cond3 (grid0.coords t) = 1#1 ↔ t.val = 32 :=
  (by decide +kernel : ∀ t : Fin grid0.N, k0_cond3 (grid0.coords t) = 1#1 ↔ t.val = 32)

theorem off1_eq : ∀ t : Fin cfg0.N, t.val < 16 → k0_off1 (grid0.coords t) = ![64 * t.val, 0] :=
  (by decide +kernel : ∀ t : Fin grid0.N, t.val < 16 → k0_off1 (grid0.coords t) = ![64 * t.val, 0])
theorem off2_eq : ∀ t : Fin cfg0.N, t.val < 16 → k0_off2 (grid0.coords t) = ![176 * t.val, 0] :=
  (by decide +kernel : ∀ t : Fin grid0.N, t.val < 16 → k0_off2 (grid0.coords t) = ![176 * t.val, 0])

/-- A slab store read back whole: the stored rows are the slab, every other row is what was there. -/
theorem slab_of_store {sig : RefSig} {κ : Kind} {sp : Space} {e : EltTy} {R W C : ℕ} {v : Memref sig κ sp ⟨2, ![R, C]⟩ e}
    (hv : v.IsWhole) (s : (⟨2, ![R, C]⟩ : Shape).Idx → Elt F e) {off : Fin 2 → ℕ} {o : ℕ}
    (inb : ∀ a : Fin 2, off a + (⟨2, ![W, C]⟩ : Shape).size a ≤ (⟨2, ![R, C]⟩ : Shape).size a)
    (w : (Rect.unit (s := ⟨2, ![R, C]⟩) off (⟨2, ![W, C]⟩ : Shape).size inb).shape.Idx → Elt F e) (hoff : off = ![o, 0]) :
    Slab o w s (v.view.read (Elt F) (v.view.writes (Elt F) (hv.unread s)
      [⟨Rect.unit (s := ⟨2, ![R, C]⟩) off (⟨2, ![W, C]⟩ : Shape).size inb, w⟩])) := by
  constructor
  · intro y x h0 h1
    exact View.read_writes_cons_rows_of_mem v.view _ inb w [] y x hoff h0 h1
  · intro y h
    rw [View.read_writes_cons_rows_of_not_mem v.view _ inb w [] y hoff rfl h, View.writes_nil, hv.read_unread]

/-- What the last point stores for the sample rows: the four rows of each group, one after another. -/
def sampleOut (x1 : Vec F S128x4x1024 .f32) (x2 : Vec F S1x1024 .f32) (s0 : Vec F S1024x2816 .bf16) (s1 : Vec F S1024x2816 .bf16)
    (s2 : Vec F S2816x1024 .bf16) : Vec F S512x1024 .f32 :=
  k0_pay5
    (k0_pay6 (View.ld x1 (Rect.unit (s := S128x4x1024) ![0, 0, 0] S128x1x1024.size inb_S128x4x1024_S128x1x1024_0_0_0))
      (View.ld x1 (Rect.unit (s := S128x4x1024) ![0, 1, 0] S128x1x1024.size inb_S128x4x1024_S128x1x1024_0_1_0))
      (View.ld x1 (Rect.unit (s := S128x4x1024) ![0, 2, 0] S128x1x1024.size inb_S128x4x1024_S128x1x1024_0_2_0))
      (View.ld x1 (Rect.unit (s := S128x4x1024) ![0, 3, 0] S128x1x1024.size inb_S128x4x1024_S128x1x1024_0_3_0)))
    (k0_pay7 (View.ld x1 (Rect.unit (s := S128x4x1024) ![0, 0, 0] S128x1x1024.size inb_S128x4x1024_S128x1x1024_0_0_0))
      (View.ld x1 (Rect.unit (s := S128x4x1024) ![0, 1, 0] S128x1x1024.size inb_S128x4x1024_S128x1x1024_0_1_0))
      (View.ld x1 (Rect.unit (s := S128x4x1024) ![0, 2, 0] S128x1x1024.size inb_S128x4x1024_S128x1x1024_0_2_0))
      (View.ld x1 (Rect.unit (s := S128x4x1024) ![0, 3, 0] S128x1x1024.size inb_S128x4x1024_S128x1x1024_0_3_0)) x2 s0 s1 s2)

set_option maxHeartbeats 4000000 in
/-- A point of the first kind: one slab of each weight, cast to half width, goes into its resident copy. -/
theorem runA (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : k0_cond1 i = 1#1) (hc1 : ¬k0_cond2 i = 1#1) (hc2 : ¬k0_cond3 i = 1#1)
    (x3 : Vec F S64x2816 .f32) (x4 : Vec F S64x2816 .f32) (x5 : Vec F S176x1024 .f32)
    (s0 : Vec F S1024x2816 .bf16) (s1 : Vec F S1024x2816 .bf16) (s2 : Vec F S2816x1024 .bf16)
    {o1 o2 : ℕ} (ho1 : k0_off1 i = ![o1, 0]) (ho2 : k0_off2 i = ![o2, 0]) (E : Set ℕ) (K : PUnit → sProp 𝕄) :
    iprop(owns (c : Thread nD τ) arg4 fullShare x3 ∗ owns (c : Thread nD τ) arg5 fullShare x4 ∗ owns (c : Thread nD τ) arg6 fullShare x5
        ∗ owns (c : Thread nD τ) arg10 fullShare s0 ∗ owns (c : Thread nD τ) arg11 fullShare s1 ∗ owns (c : Thread nD τ) arg12 fullShare s2
        ∗ (iprop(owns (c : Thread nD τ) arg4 fullShare x3 ∗ owns (c : Thread nD τ) arg5 fullShare x4 ∗ owns (c : Thread nD τ) arg6 fullShare x5
          ∗ (∃ d, ⌜Slab o1 (k0_pay1 x3) s0 d⌝ ∗ owns (c : Thread nD τ) arg10 fullShare d)
          ∗ (∃ d, ⌜Slab o1 (k0_pay2 x4) s1 d⌝ ∗ owns (c : Thread nD τ) arg11 fullShare d)
          ∗ (∃ d, ⌜Slab o2 (k0_pay3 x5) s2 d⌝ ∗ owns (c : Thread nD τ) arg12 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f3, %hf3, H3⟩, ⟨%f4, %hf4, H4⟩, ⟨%f5, %hf5, H5⟩, ⟨%g0, %hg0, S0⟩, ⟨%g1, %hg1, S1⟩, ⟨%g2, %hg2, S2⟩, Hk⟩
  obtain rfl := harg4.eq_unread hf3; obtain rfl := harg5.eq_unread hf4; obtain rfl := harg6.eq_unread hf5
  obtain rfl := harg10.eq_unread hg0; obtain rfl := harg11.eq_unread hg1; obtain rfl := harg12.eq_unread hg2
  sl_exec (disch := first | sl_exact hc0 | sl_exact hc1 | sl_exact hc2)
  sl_step
  iapply Hk
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [S0]
  · iexists _; isplitr; swap
    · iexists _; isplitr; swap; · iexact S0
      ipureintro; rfl
    ipureintro
    rw [View.readAt_full, harg4.read_unread]
    exact slab_of_store harg10 _ _ _ ho1
  isplitl [S1]
  · iexists _; isplitr; swap
    · iexists _; isplitr; swap; · iexact S1
      ipureintro; rfl
    ipureintro
    rw [View.readAt_full, harg5.read_unread]
    exact slab_of_store harg11 _ _ _ ho1
  iexists _; isplitr; swap
  · iexists _; isplitr; swap; · iexact S2
    ipureintro; rfl
  ipureintro
  rw [View.readAt_full, harg6.read_unread]
  exact slab_of_store harg12 _ _ _ ho2

set_option maxHeartbeats 4000000 in
/-- A point of the second kind: a tile of the prompt. -/
theorem runB (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : ¬k0_cond1 i = 1#1) (hc1 : k0_cond2 i = 1#1) (hc2 : ¬k0_cond3 i = 1#1)
    (x0 : Vec F S1024x1024 .f32) (x2 : Vec F S1x1024 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg3 fullShare x2 ∗ owns (c : Thread nD τ) arg10 fullShare s0 ∗ owns (c : Thread nD τ) arg11 fullShare s1 ∗ owns (c : Thread nD τ) arg12 fullShare s2 ∗ (∃ d, owns (c : Thread nD τ) arg8 fullShare d)
        ∗ (iprop(owns (c : Thread nD τ) arg1 fullShare x0 ∗ owns (c : Thread nD τ) arg3 fullShare x2 ∗ owns (c : Thread nD τ) arg10 fullShare s0 ∗ owns (c : Thread nD τ) arg11 fullShare s1 ∗ owns (c : Thread nD τ) arg12 fullShare s2 ∗ owns (c : Thread nD τ) arg8 fullShare (k0_pay4 x0 x2 s0 s1 s2)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f1, %hf1, H1⟩, ⟨%f3, %hf3, H3⟩, ⟨%f10, %hf10, H10⟩, ⟨%f11, %hf11, H11⟩, ⟨%f12, %hf12, H12⟩, ⟨%d, %f, -, H⟩, Hk⟩
  obtain rfl := harg1.eq_unread hf1
  obtain rfl := harg3.eq_unread hf3
  obtain rfl := harg10.eq_unread hf10
  obtain rfl := harg11.eq_unread hf11
  obtain rfl := harg12.eq_unread hf12
  sl_exec (disch := first | sl_exact hc0 | sl_exact hc1 | sl_exact hc2)
  sl_step
  iapply Hk
  isplitl [H1]
  · iexists _; isplitr; · ipureintro; exact harg1.read_unread _
    iexact H1
  isplitl [H3]
  · iexists _; isplitr; · ipureintro; exact harg3.read_unread _
    iexact H3
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  iexists _; isplitr; swap; · iexact H
  ipureintro
  rw [View.read_writes_full]
  rw [View.readAt_full arg1.view (harg1.unread x0), harg1.read_unread, View.readAt_full arg3.view (harg3.unread x2), harg3.read_unread, View.readAt_full arg10.view (harg10.unread s0), harg10.read_unread, View.readAt_full arg11.view (harg11.unread s1), harg11.read_unread, View.readAt_full arg12.view (harg12.unread s2), harg12.read_unread]

set_option maxHeartbeats 4000000 in
/-- The last point: the sample rows. -/
theorem runC (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : ¬k0_cond1 i = 1#1) (hc1 : ¬k0_cond2 i = 1#1) (hc2 : k0_cond3 i = 1#1)
    (x1 : Vec F S128x4x1024 .f32) (x2 : Vec F S1x1024 .f32) (s0 : Vec F S1024x2816 .bf16) (s1 : Vec F S1024x2816 .bf16) (s2 : Vec F S2816x1024 .bf16) (E : Set ℕ) (K : PUnit → sProp 𝕄) :
    iprop(owns (c : Thread nD τ) arg2 fullShare x1 ∗ owns (c : Thread nD τ) arg3 fullShare x2 ∗ owns (c : Thread nD τ) arg10 fullShare s0 ∗ owns (c : Thread nD τ) arg11 fullShare s1 ∗ owns (c : Thread nD τ) arg12 fullShare s2 ∗ (∃ d, owns (c : Thread nD τ) arg9 fullShare d)
        ∗ (iprop(owns (c : Thread nD τ) arg2 fullShare x1 ∗ owns (c : Thread nD τ) arg3 fullShare x2 ∗ owns (c : Thread nD τ) arg10 fullShare s0 ∗ owns (c : Thread nD τ) arg11 fullShare s1 ∗ owns (c : Thread nD τ) arg12 fullShare s2 ∗ owns (c : Thread nD τ) arg9 fullShare (sampleOut x1 x2 s0 s1 s2)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]; unfold k0_part1_skel
  unfold owns
  iintro ⟨⟨%f2, %hf2, H2⟩, ⟨%f3, %hf3, H3⟩, ⟨%f10, %hf10, H10⟩, ⟨%f11, %hf11, H11⟩, ⟨%f12, %hf12, H12⟩, ⟨%d, %f, -, H⟩, Hk⟩
  obtain rfl := harg2.eq_unread hf2
  obtain rfl := harg3.eq_unread hf3
  obtain rfl := harg10.eq_unread hf10
  obtain rfl := harg11.eq_unread hf11
  obtain rfl := harg12.eq_unread hf12
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  iexists _; isplitr; swap; · iexact H
  ipureintro
  refine (View.read_writes_full _ _ _ _ _).trans ?_
  rw [View.readAt_full arg3.view (harg3.unread x2), harg3.read_unread, View.readAt_full arg10.view (harg10.unread s0), harg10.read_unread, View.readAt_full arg11.view (harg11.unread s1), harg11.read_unread, View.readAt_full arg12.view (harg12.unread s2), harg12.read_unread]
  simp -proj -dsimp only [View.readAt_eq_ld, harg2.read_unread]
  rfl

end Cert.FfnRun

end
-- ==== Proof.FfnFrame.lean ====
/- The first feed-forward kernel's run: what every grid point leaves, the resident weights followed slab by slab, and
   from it the launch of the whole program, for any float values. -/
module

public import proofs.«01_k».proof.Proof.FfnRuns
public import Idealize.ShloMosaic.Lib.Pipeline.ValueKit
public import Idealize.ShloMosaic.Lib.Pipeline.TableIdle

@[expose] public section

set_option maxRecDepth 16384

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resident weights -/

/-- The three weights at half width, whole. -/
def W0 (c : Dev nD) : Vec F S1024x2816 .bf16 := truncf .bf16 (V m c main_arg3 : FVec F S1024x2816 .f32) bitsLt_bf16_f32
def W1 (c : Dev nD) : Vec F S1024x2816 .bf16 := truncf .bf16 (V m c main_arg4 : FVec F S1024x2816 .f32) bitsLt_bf16_f32
def W2 (c : Dev nD) : Vec F S2816x1024 .bf16 := truncf .bf16 (V m c main_arg5 : FVec F S2816x1024 .f32) bitsLt_bf16_f32

theorem idx : ∀ t : Fin cfg0.N, win0_0.index t = ![min (t.val - 16) 15, 0] ∧ win0_1.index t = ![0, 0, 0] ∧ win0_2.index t = ![0, 0]
    ∧ win0_3.index t = ![min t.val 15, 0] ∧ win0_4.index t = ![min t.val 15, 0] ∧ win0_5.index t = ![min t.val 15, 0]
    ∧ win0_7.index t = ![min (t.val - 16) 15, 0] ∧ win0_8.index t = ![0, 0] ∧ t.val < 33 :=
  (by decide +kernel : ∀ t : Fin grid0.N, _)

/-- A copied slab's entry is the whole weight's at its row. -/
theorem slab0_at (c : Dev nD) (t : Fin cfg0.N) (ht : t.val < 16) (x : S64x2816.Idx) (y : S1024x2816.Idx)
    (h0 : (y 0).val = 64 * t.val + (x 0).val) (h1 : (y 1).val = (x 1).val) :
    k0_pay1 (iblk m c 3 t) x = W0 m c y := by
  obtain ⟨-, -, -, e3, e4, e5, -⟩ := idx t
  have hr : iblk m c 3 t x = V m c main_arg3 y := by
    blk_ext [iblk, e3]
  unfold k0_pay1 W0
  rw [shapeCast_id]
  exact congrArg _ hr

/-- A copied slab's entry is the whole weight's at its row. -/
theorem slab1_at (c : Dev nD) (t : Fin cfg0.N) (ht : t.val < 16) (x : S64x2816.Idx) (y : S1024x2816.Idx)
    (h0 : (y 0).val = 64 * t.val + (x 0).val) (h1 : (y 1).val = (x 1).val) :
    k0_pay2 (iblk m c 4 t) x = W1 m c y := by
  obtain ⟨-, -, -, e3, e4, e5, -⟩ := idx t
  have hr : iblk m c 4 t x = V m c main_arg4 y := by
    blk_ext [iblk, e4]
  unfold k0_pay2 W1
  rw [shapeCast_id]
  exact congrArg _ hr

/-- A copied slab's entry is the whole weight's at its row. -/
theorem slab2_at (c : Dev nD) (t : Fin cfg0.N) (ht : t.val < 16) (x : S176x1024.Idx) (y : S2816x1024.Idx)
    (h0 : (y 0).val = 176 * t.val + (x 0).val) (h1 : (y 1).val = (x 1).val) :
    k0_pay3 (iblk m c 5 t) x = W2 m c y := by
  obtain ⟨-, -, -, e3, e4, e5, -⟩ := idx t
  have hr : iblk m c 5 t x = V m c main_arg5 y := by
    blk_ext [iblk, e5]
  unfold k0_pay3 W2
  rw [shapeCast_id]
  exact congrArg _ hr

/-- The rows of `d` before row `n` are those of `w`. -/
def Upto {α : Type} {R C : ℕ} (n : ℕ) (w d : (⟨2, ![R, C]⟩ : Shape).Idx → α) : Prop :=
  ∀ y : (⟨2, ![R, C]⟩ : Shape).Idx, (y 0).val < n → d y = w y

theorem Upto.step {α : Type} {R W C o : ℕ} {w s d : (⟨2, ![R, C]⟩ : Shape).Idx → α} {p : (⟨2, ![W, C]⟩ : Shape).Idx → α}
    (h : Upto o w s) (hs : Slab o p s d) (hp : ∀ x y, (y 0).val = o + (x 0).val → (y 1).val = (x 1).val → p x = w y) :
    Upto (o + W) w d := by
  intro y hy
  by_cases hlt : (y 0).val < o
  · rw [hs.2 y (.inl hlt), h y hlt]
  · let x : (⟨2, ![W, C]⟩ : Shape).Idx := fun a => match a with
      | ⟨0, _⟩ => ⟨(y 0).val - o, by show _ < W; omega⟩
      | ⟨1, _⟩ => ⟨(y 1).val, (y 1).isLt⟩
    have h0 : (y 0).val = o + (x 0).val := by show _ = o + ((y 0).val - o); omega
    exact (hs.1 y x h0 rfl).trans (hp x y h0 rfl)

/-- All rows known. -/
theorem Upto.all {α : Type} {R C n : ℕ} {w d : (⟨2, ![R, C]⟩ : Shape).Idx → α} (h : Upto n w d) (hn : R ≤ n) : d = w :=
  funext fun y => h y (Nat.lt_of_lt_of_le (y 0).isLt hn)

/-! ## What each point leaves -/

/-- The prompt tile at a point, and the sample rows at the last. -/
def outP (c : Dev nD) (t : Fin cfg0.N) : Vec F S1024x1024 .f32 :=
  k0_pay4 (iblk m c 0 t) (iblk m c 2 t) (W0 m c) (W1 m c) (W2 m c)
def outS (c : Dev nD) (t : Fin cfg0.N) : Vec F S512x1024 .f32 :=
  sampleOut (iblk m c 1 t) (iblk m c 2 t) (W0 m c) (W1 m c) (W2 m c)

abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2

/-- Before point `k` the first `k` slabs of each resident weight are in place. -/
def Held (c : Dev nD) (k : ℕ) : sProp 𝕄 :=
  iprop((∃ d, ⌜Upto (64 * min k 16) (W0 m c) d⌝ ∗ owns (c : Thread nD τ) sc0 fullShare d)
    ∗ (∃ d, ⌜Upto (64 * min k 16) (W1 m c) d⌝ ∗ owns (c : Thread nD τ) sc1 fullShare d)
    ∗ (∃ d, ⌜Upto (176 * min k 16) (W2 m c) d⌝ ∗ owns (c : Thread nD τ) sc2 fullShare d)
    ∗ (∃ r, prngReg c r))

/-- From point 16 on they are whole. -/
theorem Held_full (c : Dev nD) (k : ℕ) (hk : 16 ≤ k) :
    Held m c k ⊢ iprop(owns (c : Thread nD τ) sc0 fullShare (W0 m c) ∗ owns (c : Thread nD τ) sc1 fullShare (W1 m c)
      ∗ owns (c : Thread nD τ) sc2 fullShare (W2 m c) ∗ (∃ r, prngReg c r)) := by
  unfold Held
  iintro ⟨⟨%d0, %h0, H0⟩, ⟨%d1, %h1, H1⟩, ⟨%d2, %h2, H2⟩, Hg⟩
  obtain rfl := h0.all (by omega)
  obtain rfl := h1.all (by omega)
  obtain rfl := h2.all (by omega)
  isplitl [H0]; · iexact H0
  isplitl [H1]; · iexact H1
  isplitl [H2]; · iexact H2
  iexact Hg

theorem Held_of (c : Dev nD) (k : ℕ) :
    iprop(owns (c : Thread nD τ) sc0 fullShare (W0 m c) ∗ owns (c : Thread nD τ) sc1 fullShare (W1 m c)
      ∗ owns (c : Thread nD τ) sc2 fullShare (W2 m c) ∗ (∃ r, prngReg c r)) ⊢ Held m c k := by
  unfold Held
  iintro ⟨H0, H1, H2, Hg⟩
  isplitl [H0]
  · iexists _; isplitr; swap; · iexact H0
    ipureintro; exact fun _ _ => rfl
  isplitl [H1]
  · iexists _; isplitr; swap; · iexact H1
    ipureintro; exact fun _ _ => rfl
  isplitl [H2]
  · iexists _; isplitr; swap; · iexact H2
    ipureintro; exact fun _ _ => rfl
  iexact Hg

/-- The proof data: each array as the region finds it, each input's buffer at its block, the outputs at what the points
    leave, the resident weights followed between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outP m c t
    | ⟨8, _⟩ => outS m c t
  Φ t := Held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outP m c t := by dsimp only [dats]
theorem after0_8 (c : Dev nD) (t : Fin cfg0.N) : (dats m 0 c).after 8 t = outS m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## When the outputs are stored and written back -/

theorem idle7 : ∀ t : Fin cfg0.N, cfg0.idle 7 (grid0.coords t) = !decide (16 ≤ t.val ∧ t.val < 32) :=
  (by decide +kernel : ∀ t : Fin grid0.N, cfg0.idle 7 (grid0.coords t) = !decide (16 ≤ t.val ∧ t.val < 32))
theorem flush7 : ∀ t : Fin cfg0.N, (cfg0.win 7).flush t = decide (16 ≤ t.val ∧ t.val ≠ 31) :=
  (by decide +kernel : ∀ t : Fin grid0.N, win0_7.flush t = decide (16 ≤ t.val ∧ t.val ≠ 31))
theorem fresh7 : ∀ t : Fin cfg0.N, cfg0.fresh 7 t.val = decide (t.val < 32) :=
  (by decide +kernel : ∀ t : Fin grid0.N, cfg0.fresh 7 t.val = decide (t.val < 32))
theorem idle8 : ∀ t : Fin cfg0.N, cfg0.idle 8 (grid0.coords t) = !decide (t.val = 32) :=
  (by decide +kernel : ∀ t : Fin grid0.N, cfg0.idle 8 (grid0.coords t) = !decide (t.val = 32))
theorem flush8 : ∀ t : Fin cfg0.N, (cfg0.win 8).flush t = decide (t.val = 32) :=
  (by decide +kernel : ∀ t : Fin grid0.N, win0_8.flush t = decide (t.val = 32))

/-- The last point finds the prompt's last tile as the point before left it, and its own tile is the same one. -/
theorem outP_last (c : Dev nD) (t t' : Fin cfg0.N) (ht : t.val = 32) (ht' : t'.val = 31) : outP m c t = outP m c t' := by
  have e0 : iblk m c 0 t = iblk m c 0 t' := by
    obtain ⟨a, -⟩ := idx t
    obtain ⟨b, -⟩ := idx t'
    rw [ht] at a; rw [ht'] at b
    funext x
    blk_ext [iblk, a, b]
  have e2 : iblk m c 2 t = iblk m c 2 t' := by
    obtain ⟨-, -, a, -⟩ := idx t
    obtain ⟨-, -, b, -⟩ := idx t'
    funext x
    blk_ext [iblk, a, b]
  unfold outP; rw [e0, e2]

theorem before7_last (c : Dev nD) (t : Fin cfg0.N) (ht : t.val = 32) (d) : (dats m 0 c).before 7 t d = outP m c t := by
  rw [(dats m 0 c).before_out_traj 7 rfl (fun _ _ => rfl) ?_ t.val t rfl d, fresh7, if_neg (by simp [ht]), after0_7]
  · exact (outP_last m c t _ ht (by show t.val - 1 = 31; omega)).symm
  · intro t ht0 hi hf
    have hN : t.val < 33 := (idx t).2.2.2.2.2.2.2.2
    rw [fresh7] at hf
    have hlt : ¬ t.val < 32 := by simpa using hf
    have h32 : t.val = 32 := by omega
    rw [after0_7, after0_7]
    exact outP_last m c t _ h32 (by show t.val - 1 = 31; omega)

theorem leaves7_idle (c : Dev nD) (t : Fin cfg0.N) (ht : t.val < 16) :
    (dats m 0 c).leavesExact 7 t = iprop(∃ d, owns (c : Thread nD τ) ((cfg0.win 7).stage (cfg0.slots t 7)) fullShare ((dats m 0 c).before 7 t d)) :=
  (dats m 0 c).leavesExact_idle 7 t ((idle7 t).trans (by simp; omega)) ((flush7 t).trans (by simp; omega))
theorem leaves7 (c : Dev nD) (t : Fin cfg0.N) (ht : 16 ≤ t.val) :
    (dats m 0 c).leavesExact 7 t = owns (c : Thread nD τ) ((cfg0.win 7).stage (cfg0.slots t 7)) fullShare (outP m c t) := by
  have hN : t.val < 33 := (idx t).2.2.2.2.2.2.2.2
  unfold Dat.leavesExact
  by_cases h : t.val < 32
  · rw [(show cfg0.idle 7 (cfg0.grid.coords t) = false from (idle7 t).trans (by simp; omega)), after0_7]
  · rw [(show cfg0.idle 7 (cfg0.grid.coords t) = true from (idle7 t).trans (by simp; omega)),
      (show (cfg0.win 7).flush t = true from (flush7 t).trans (by simp; omega)), after0_7]
theorem leaves8_idle (c : Dev nD) (t : Fin cfg0.N) (ht : t.val < 32) :
    (dats m 0 c).leavesExact 8 t = iprop(∃ d, owns (c : Thread nD τ) ((cfg0.win 8).stage (cfg0.slots t 8)) fullShare ((dats m 0 c).before 8 t d)) :=
  (dats m 0 c).leavesExact_idle 8 t ((idle8 t).trans (by simp; omega)) ((flush8 t).trans (by simp; omega))
theorem leaves8 (c : Dev nD) (t : Fin cfg0.N) (ht : t.val = 32) :
    (dats m 0 c).leavesExact 8 t = owns (c : Thread nD τ) ((cfg0.win 8).stage (cfg0.slots t 8)) fullShare (outS m c t) := by
  unfold Dat.leavesExact
  rw [(show cfg0.idle 8 (cfg0.grid.coords t) = false from (idle8 t).trans (by simp; omega)), after0_8]

abbrev ms0 (t : Fin cfg0.N) : Memref sig .tc .vmem S1024x1024 .f32 := win0_0.stage (cfg0.slots t 0)
abbrev ms1 (t : Fin cfg0.N) : Memref sig .tc .vmem S128x4x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S64x2816 .f32 := win0_3.stage (cfg0.slots t 3)
abbrev ms4 (t : Fin cfg0.N) : Memref sig .tc .vmem S64x2816 .f32 := win0_4.stage (cfg0.slots t 4)
abbrev ms5 (t : Fin cfg0.N) : Memref sig .tc .vmem S176x1024 .f32 := win0_5.stage (cfg0.slots t 5)
abbrev ms6 (t : Fin cfg0.N) : Memref sig .tc .vmem S1x1024 .f32 := win0_6.stage (cfg0.slots t 6)
abbrev ms7 (t : Fin cfg0.N) : Memref sig .tc .vmem S1024x1024 .f32 := win0_7.stage (cfg0.slots t 7)
abbrev ms8 (t : Fin cfg0.N) : Memref sig .tc .vmem S512x1024 .f32 := win0_8.stage (cfg0.slots t 8)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An input window is never idle: its buffer ends at its block. -/
theorem leavesIn (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 33 := (idx t).2.2.2.2.2.2.2.2
  simp only [before0_0, before0_1, before0_2, before0_3, before0_4, before0_5, before0_6]
  rw [show (dats m 0 c).owesAt () t.succ = (dats m 0 c).owesAt () t.castSucc from rfl,
    show (dats m 0 c).Φ t.castSucc = Held m c t.val from rfl, show (dats m 0 c).Φ t.succ = Held m c (t.val + 1) from rfl]
  rw [leavesIn m c t 0 rfl, after0_0]
  rw [leavesIn m c t 1 rfl, after0_1]
  rw [leavesIn m c t 2 rfl, after0_2]
  rw [leavesIn m c t 3 rfl, after0_3]
  rw [leavesIn m c t 4 rfl, after0_4]
  rw [leavesIn m c t 5 rfl, after0_5]
  rw [leavesIn m c t 6 rfl, after0_6]
  rcases Nat.lt_or_ge t.val 16 with ht | ht
  · rw [leaves7_idle m c t ht, leaves8_idle m c t (by omega)]
    unfold Held
    rw [show min t.val 16 = t.val by omega, show min (t.val + 1) 16 = t.val + 1 by omega, Nat.mul_succ, Nat.mul_succ]
    iintro ⟨⟨⟨%s0, %hs0, S0⟩, ⟨%s1, %hs1, S1⟩, ⟨%s2, %hs2, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ ((copies t).mpr ht) (fun h => by have := (prompts t).mp h; omega)
      (fun h => by have := (samples t).mp h; omega) (iblk m c 3 t) (iblk m c 4 t) (iblk m c 5 t) s0 s1 s2 (off1_eq t ht) (off2_eq t ht) Set.univ _)
    isplitl [H3]; · iexact H3
    isplitl [H4]; · iexact H4
    isplitl [H5]; · iexact H5
    isplitl [S0]; · iexact S0
    isplitl [S1]; · iexact S1
    isplitl [S2]; · iexact S2
    iintro ⟨H3, H4, H5, ⟨%e0, %he0, S0⟩, ⟨%e1, %he1, S1⟩, ⟨%e2, %he2, S2⟩⟩
    isplitl [S0 S1 S2 Hg]
    · isplitl [S0]
      · iexists e0; isplitr; swap; · iexact S0
        ipureintro; exact hs0.step he0 fun x y h0 h1 => slab0_at m c t ht x y h0 h1
      isplitl [S1]
      · iexists e1; isplitr; swap; · iexact S1
        ipureintro; exact hs1.step he1 fun x y h0 h1 => slab1_at m c t ht x y h0 h1
      isplitl [S2]
      · iexists e2; isplitr; swap; · iexact S2
        ipureintro; exact hs2.step he2 fun x y h0 h1 => slab2_at m c t ht x y h0 h1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  rw [leaves7 m c t ht]
  refine ((sep_mono (Held_full m c t.val ht) .rfl).trans ?_)
  rcases Nat.lt_or_ge t.val 32 with ht' | ht'
  · rw [leaves8_idle m c t ht']
    iintro ⟨⟨S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ (fun h => by have := (copies t).mp h; omega) ((prompts t).mpr ⟨ht, ht'⟩)
      (fun h => by have := (samples t).mp h; omega) (iblk m c 0 t) (iblk m c 2 t) (W0 m c) (W1 m c) (W2 m c) Set.univ _)
    isplitl [H0]; · iexact H0
    isplitl [H2]; · iexact H2
    isplitl [S0]; · iexact S0
    isplitl [S1]; · iexact S1
    isplitl [S2]; · iexact S2
    isplitl [H7]; · iexists _; iexact H7
    iintro ⟨H0, H2, S0, S1, S2, H7⟩
    isplitl [S0 S1 S2 Hg]
    · iapply (Held_of m c (t.val + 1))
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  have h32 : t.val = 32 := by omega
  rw [leaves8 m c t h32]
  simp only [before7_last m c t h32]
  iintro ⟨⟨S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runC c (grid0.coords t) _ _ _ _ _ _ _ _ _ _ _ _ _ _ _ _ _ _ _ _ _ _ _ _ (fun h => by have := (copies t).mp h; omega) (fun h => by have := (prompts t).mp h; omega)
    ((samples t).mpr h32) (iblk m c 1 t) (iblk m c 2 t) (W0 m c) (W1 m c) (W2 m c) Set.univ _)
  isplitl [H1]; · iexact H1
  isplitl [H2]; · iexact H2
  isplitl [S0]; · iexact S0
  isplitl [S1]; · iexact S1
  isplitl [S2]; · iexact S2
  isplitl [H8]; · iexists _; iexact H8
  iintro ⟨H1, H2, S0, S1, S2, H8⟩
  isplitl [S0 S1 S2 Hg]
  · iapply (Held_of m c (t.val + 1))
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin (c : Dev nD) : Pipeline.ΦA spec0 c ⊢ (dats (F := F) m 0 c).Φ 0 := by
  rw [PhiA_eq, show (dats m 0 c).Φ 0 = Held m c 0 from rfl]
  unfold Held
  iintro ⟨⟨⟨%d0, S0⟩, ⟨%d1, S1⟩, ⟨%d2, S2⟩⟩, Hg⟩
  isplitl [S0]
  · iexists d0; isplitr; swap; · iexact S0
    ipureintro; exact fun y hy => absurd hy (by simp)
  isplitl [S1]
  · iexists d1; isplitr; swap; · iexact S1
    ipureintro; exact fun y hy => absurd hy (by simp)
  isplitl [S2]
  · iexists d2; isplitr; swap; · iexact S2
    ipureintro; exact fun y hy => absurd hy (by simp)
  iexact Hg

theorem hout (c : Dev nD) : (dats (F := F) m 0 c).Φ (Fin.last cfg0.N) ⊢ Pipeline.ΦA spec0 c := by
  rw [PhiA_eq, show (dats m 0 c).Φ (Fin.last cfg0.N) = Held m c (Fin.last cfg0.N).val from rfl]
  unfold Held
  iintro ⟨⟨%d0, -, S0⟩, ⟨%d1, -, S1⟩, ⟨%d2, -, S2⟩, Hg⟩
  isplitr [Hg]
  · isplitl [S0]; · iexists d0; iexact S0
    isplitl [S1]; · iexists d1; iexact S1
    iexists d2; iexact S2
  iexact Hg

set_option backward.isDefEq.respectTransparency.types false in
/-- Every execution ends, with every array of the launch at what the points left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnRun

end
-- ==== Proof.FfnValue.lean ====
/- The first feed-forward kernel's results: every row is the row with half a gated feed-forward step added, on the
   kernel's side and on the reference's, so the two result arrays are the reference's. -/
module

public import proofs.«01_k».proof.Proof.FfnFrame
public import proofs.«01_k».proof.Proof.Gen.FfnRefIdeal.Run
public import Idealize.ShloMosaic.Lib.Pipeline.ValueKit

@[expose] public section
set_option maxRecDepth 16384
noncomputable section

namespace Cert.FfnVal
open Idealize.ShloMosaic Idealize.ShloMosaic.TcCoe Idealize.ShloMosaic.Tactic

/-- A row divided by its root mean square and scaled. -/
def rms (x g : Fin 1024 → EReal) (k : Fin 1024) : EReal :=
  x k * Ideal.rsqrt (Ideal.div (∑ l, x l * x l) (Ideal.ofBits .f32 1149239296#32) + Ideal.ofBits .f32 897988541#32) * g k

/-- Half a gated feed-forward step added to a row. -/
def ffn (x g : Fin 1024 → EReal) (a b : Fin 1024 → Fin 2816 → EReal) (d : Fin 2816 → Fin 1024 → EReal) (j : Fin 1024) : EReal :=
  x j + Ideal.ofBits .f32 1056964608#32 * ∑ p, (∑ k, rms x g k * a k p) * Ideal.logistic (∑ k, rms x g k * a k p) * (∑ k, rms x g k * b k p) * d p j
theorem ffn_congr {x x' g g' : Fin 1024 → EReal} {a a' b b' : Fin 1024 → Fin 2816 → EReal} {d d' : Fin 2816 → Fin 1024 → EReal}
    {j j' : Fin 1024} (hx : ∀ k, x k = x' k) (hg : ∀ k, g k = g' k) (ha : ∀ k p, a k p = a' k p) (hb : ∀ k p, b k p = b' k p)
    (hd : ∀ p k, d p k = d' p k) (hj : j = j') : ffn x g a b d j = ffn x' g' a' b' d' j' := by
  obtain rfl := funext hx
  obtain rfl := funext hg
  obtain rfl := funext fun k => funext (ha k)
  obtain rfl := funext fun k => funext (hb k)
  obtain rfl := funext fun k => funext (hd k)
  rw [hj]

section
open Cert.FfnRefIdeal Cert.FfnRefIdeal.Gen Idealize.ShloMosaic.StableHlo

/-- The reference's prompt rows, from its arguments. -/
def refP (x : FVec Ideal S8x2048x1024 .f32) (g : FVec Ideal S1024 .f32) (a b : FVec Ideal S1024x2816 .f32)
    (d : FVec Ideal S2816x1024 .f32) : FVec Ideal S16384x1024 .f32 :=
  shapeCast S16384x1024 (addf x (mulf (broadcastInDim S8x2048x1024 ![] bcast_S_S8x2048x1024 (constant S_ .f32
    0x3F000000#32)) (Host.dotGeneral dot_S8x2048x2816_S2816x1024_S8x2048x1024_2_0_01_1_n_n none (mulf (mulf
    (Host.dotGeneral dot_S8x2048x1024_S1024x2816_S8x2048x2816_2_0_01_1_n_n none (mulf (mulf x (broadcastInDim
    S8x2048x1024 ![0, 1, 2] bcast_S8x2048x1_S8x2048x1024_0_1_2 (Host.rsqrt (addf (Host.divf (broadcastInDim
    S8x2048x1 ![0, 1] bcast_S8x2048_S8x2048x1_0_1 (Host.reduceAdd (mulf x x) (constant S_ .f32 0x00000000#32)
    reducesTo_S8x2048x1024_S8x2048_d2 h_S_)) (broadcastInDim S8x2048x1 ![] bcast_S_S8x2048x1 (constant S_ .f32
    0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
    bcast_S1024_S1x1x1024_2 g))) a) (Host.divf (broadcastInDim S8x2048x2816 ![] bcast_S_S8x2048x2816 (constant S_
    .f32 0x3F800000#32)) (addf (broadcastInDim S8x2048x2816 ![] bcast_S_S8x2048x2816 (constant S_ .f32
    0x3F800000#32)) (Host.exp (Host.negf (Host.dotGeneral dot_S8x2048x1024_S1024x2816_S8x2048x2816_2_0_01_1_n_n
    none (mulf (mulf x (broadcastInDim S8x2048x1024 ![0, 1, 2] bcast_S8x2048x1_S8x2048x1024_0_1_2 (Host.rsqrt
    (addf (Host.divf (broadcastInDim S8x2048x1 ![0, 1] bcast_S8x2048_S8x2048x1_0_1 (Host.reduceAdd (mulf x x)
    (constant S_ .f32 0x00000000#32) reducesTo_S8x2048x1024_S8x2048_d2 h_S_)) (broadcastInDim S8x2048x1 ![]
    bcast_S_S8x2048x1 (constant S_ .f32 0x44800000#32))) (broadcastInDim S8x2048x1 ![] bcast_S_S8x2048x1 (constant
    S_ .f32 0x358637BD#32)))))) (broadcastInDim S8x2048x1024 ![0, 1, 2] bcast_S1x1x1024_S8x2048x1024_0_1_2
    (broadcastInDim S1x1x1024 ![2] bcast_S1024_S1x1x1024_2 g))) a)))))) (Host.dotGeneral
    dot_S8x2048x1024_S1024x2816_S8x2048x2816_2_0_01_1_n_n none (mulf (mulf x (broadcastInDim S8x2048x1024 ![0, 1,
    2] bcast_S8x2048x1_S8x2048x1024_0_1_2 (Host.rsqrt (addf (Host.divf (broadcastInDim S8x2048x1 ![0, 1]
    bcast_S8x2048_S8x2048x1_0_1 (Host.reduceAdd (mulf x x) (constant S_ .f32 0x00000000#32)
    reducesTo_S8x2048x1024_S8x2048_d2 h_S_)) (broadcastInDim S8x2048x1 ![] bcast_S_S8x2048x1 (constant S_ .f32
    0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2]
    bcast_S1024_S1x1x1024_2 g))) b)) d))) shapeCasts_S8x2048x1024_S16384x1024

/-- The reference's sample rows, from its arguments. -/
def refS (x : FVec Ideal S128x4x1024 .f32) (g : FVec Ideal S1024 .f32) (a b : FVec Ideal S1024x2816 .f32)
    (d : FVec Ideal S2816x1024 .f32) : FVec Ideal S512x1024 .f32 :=
  shapeCast S512x1024 (transpose S4x128x1024 [1, 0, 2] (addf x (mulf (broadcastInDim S128x4x1024 ![]
    bcast_S_S128x4x1024 (constant S_ .f32 0x3F000000#32)) (Host.dotGeneral
    dot_S128x4x2816_S2816x1024_S128x4x1024_2_0_01_1_n_n none (mulf (mulf (Host.dotGeneral
    dot_S128x4x1024_S1024x2816_S128x4x2816_2_0_01_1_n_n none (mulf (mulf x (broadcastInDim S128x4x1024 ![0, 1, 2]
    bcast_S128x4x1_S128x4x1024_0_1_2 (Host.rsqrt (addf (Host.divf (broadcastInDim S128x4x1 ![0, 1]
    bcast_S128x4_S128x4x1_0_1 (Host.reduceAdd (mulf x x) (constant S_ .f32 0x00000000#32)
    reducesTo_S128x4x1024_S128x4_d2 h_S_)) (broadcastInDim S128x4x1 ![] bcast_S_S128x4x1 (constant S_ .f32
    0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2]
    bcast_S1024_S1x1x1024_2 g))) a) (Host.divf (broadcastInDim S128x4x2816 ![] bcast_S_S128x4x2816 (constant S_
    .f32 0x3F800000#32)) (addf (broadcastInDim S128x4x2816 ![] bcast_S_S128x4x2816 (constant S_ .f32
    0x3F800000#32)) (Host.exp (Host.negf (Host.dotGeneral dot_S128x4x1024_S1024x2816_S128x4x2816_2_0_01_1_n_n none
    (mulf (mulf x (broadcastInDim S128x4x1024 ![0, 1, 2] bcast_S128x4x1_S128x4x1024_0_1_2 (Host.rsqrt (addf
    (Host.divf (broadcastInDim S128x4x1 ![0, 1] bcast_S128x4_S128x4x1_0_1 (Host.reduceAdd (mulf x x) (constant S_
    .f32 0x00000000#32) reducesTo_S128x4x1024_S128x4_d2 h_S_)) (broadcastInDim S128x4x1 ![] bcast_S_S128x4x1
    (constant S_ .f32 0x44800000#32))) (broadcastInDim S128x4x1 ![] bcast_S_S128x4x1 (constant S_ .f32
    0x358637BD#32)))))) (broadcastInDim S128x4x1024 ![0, 1, 2] bcast_S1x1x1024_S128x4x1024_0_1_2 (broadcastInDim
    S1x1x1024 ![2] bcast_S1024_S1x1x1024_2 g))) a)))))) (Host.dotGeneral
    dot_S128x4x1024_S1024x2816_S128x4x2816_2_0_01_1_n_n none (mulf (mulf x (broadcastInDim S128x4x1024 ![0, 1, 2]
    bcast_S128x4x1_S128x4x1024_0_1_2 (Host.rsqrt (addf (Host.divf (broadcastInDim S128x4x1 ![0, 1]
    bcast_S128x4_S128x4x1_0_1 (Host.reduceAdd (mulf x x) (constant S_ .f32 0x00000000#32)
    reducesTo_S128x4x1024_S128x4_d2 h_S_)) (broadcastInDim S128x4x1 ![] bcast_S_S128x4x1 (constant S_ .f32
    0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2]
    bcast_S1024_S1x1x1024_2 g))) b)) d))) transposes_S128x4x1024_S4x128x1024_1_0_2)
    shapeCasts_S4x128x1024_S512x1024

set_option maxHeartbeats 4000000 in
theorem refP_row (x : FVec Ideal S8x2048x1024 .f32) (g : FVec Ideal S1024 .f32) (a b : FVec Ideal S1024x2816 .f32)
    (d : FVec Ideal S2816x1024 .f32) (i : S16384x1024.Idx) (u : Fin 8) (v : Fin 2048) (j : Fin 1024)
     (h0 : (i 0 : ℕ) = 2048 * u.val + v.val) (h1 : (i 1 : ℕ) = j.val) :
    refP x g a b d i = ffn (fun k => x (ix3 u v k)) (fun k => g (ix1 k)) (fun k p => a (ix2 k p)) (fun k p => b (ix2 k p)) (fun p j => d (ix2 p j)) j := by
  have hu := u.isLt
  have hv := v.isLt
  have e0 : (i 0 : ℕ) / 2048 = u.val := by omega
  have e1 : (i 0 : ℕ) % 2048 = v.val := by omega
  have e2 : i 1 = j := Fin.ext h1
  pointwise [refP, ffn, rms]
  simp only [e0, e1, e2, Fin.eta, Ideal.logistic]

set_option maxHeartbeats 4000000 in
theorem refS_row (x : FVec Ideal S128x4x1024 .f32) (g : FVec Ideal S1024 .f32) (a b : FVec Ideal S1024x2816 .f32)
    (d : FVec Ideal S2816x1024 .f32) (i : S512x1024.Idx) (u : Fin 128) (v : Fin 4) (j : Fin 1024)
     (h0 : (i 0 : ℕ) = 128 * v.val + u.val) (h1 : (i 1 : ℕ) = j.val) :
    refS x g a b d i = ffn (fun k => x (ix3 u v k)) (fun k => g (ix1 k)) (fun k p => a (ix2 k p)) (fun k p => b (ix2 k p)) (fun p j => d (ix2 p j)) j := by
  have hu := u.isLt
  have hv := v.isLt
  have e0 : (i 0 : ℕ) / 128 = v.val := by omega
  have e1 : (i 0 : ℕ) % 128 = u.val := by omega
  have e2 : i 1 = j := Fin.ext h1
  pointwise [refS, ffn, rms]
  simp only [e0, e1, e2, Fin.eta, Ideal.logistic]
end

section
open Cert.FfnIdeal Cert.FfnIdeal.Gen

set_option maxHeartbeats 4000000 in
theorem tileP (x : Vec Ideal S1024x1024 .f32) (g : Vec Ideal S1x1024 .f32) (a b : Vec Ideal S1024x2816 .bf16) (d : Vec Ideal S2816x1024 .bf16) (i : S1024x1024.Idx) :
    k0_pay4 (F := Ideal) x g a b d i
      = ffn (fun k => x (ix2 (i 0) k)) (fun k => g (ix2 0 k)) (fun k p => a (ix2 k p)) (fun k p => b (ix2 k p)) (fun p j => d (ix2 p j)) (i 1) := by
  pointwise [k0_pay4, ffn, rms]
set_option maxHeartbeats 4000000 in
theorem tileS (x : Vec Ideal S128x4x1024 .f32) (g : Vec Ideal S1x1024 .f32) (a b : Vec Ideal S1024x2816 .bf16) (d : Vec Ideal S2816x1024 .bf16)
    (i : S512x1024.Idx) (u : Fin 128) (v : Fin 4) (j : Fin 1024)
     (h0 : (i 0 : ℕ) = 128 * v.val + u.val) (h1 : (i 1 : ℕ) = j.val) :
    FfnRun.sampleOut (F := Ideal) x g a b d i
      = ffn (fun k => x (ix3 u v k)) (fun k => g (ix2 0 k)) (fun k p => a (ix2 k p)) (fun k p => b (ix2 k p)) (fun p j => d (ix2 p j)) j := by
  unfold FfnRun.sampleOut
  generalize hX : k0_pay6 _ _ _ _ = X
  unfold k0_pay7
  rw [hX]
  have hx : ∀ k, X (ix2 (i 0) k) = x (ix3 u v k) := by
    subst hX
    intro k
    have hu := u.isLt
    have hv := v.isLt
    pointwise [k0_pay6]
    split_ifs <;> (congr 1; ext a; fin_cases a <;> simp <;> omega)
  have hi : i = ix2 (n0 := 512) (n1 := 1024) (i 0) j := by
    ext a; fin_cases a
    · rfl
    · exact h1
  have hj : i 1 = j := Fin.ext h1
  pointwise [k0_pay5, ffn, rms]
  rw [show X i = x (ix3 u v j) from (congrArg X hi).trans (hx j)]
  simp only [hx, hj]

open Idealize.ShloMosaic.Pipeline (Dat)
open Cert.FfnRun

variable (m : (ℓ : Loc nD τ sig) → Buf (Elt Ideal) ℓ)

theorem W0_at (c : Dev nD) (k : Fin 1024) (p : Fin 2816) : W0 m c (ix2 k p) = m ((c : Thread nD τ).loc main_arg3) (ix2 k p) := by
  show V m c main_arg3 (ix2 k p) = _
  rw [V_main_arg3]
theorem W1_at (c : Dev nD) (k : Fin 1024) (p : Fin 2816) : W1 m c (ix2 k p) = m ((c : Thread nD τ).loc main_arg4) (ix2 k p) := by
  show V m c main_arg4 (ix2 k p) = _
  rw [V_main_arg4]
theorem W2_at (c : Dev nD) (p : Fin 2816) (k : Fin 1024) : W2 m c (ix2 p k) = m ((c : Thread nD τ).loc main_arg5) (ix2 p k) := by
  show V m c main_arg5 (ix2 p k) = _
  rw [V_main_arg5]

theorem xs_at (c : Dev nD) (t : Fin cfg0.N) (u : Fin 128) (v : Fin 4) (k : Fin 1024) :
    iblk m c 1 t (ix3 u v k) = m ((c : Thread nD τ).loc main_arg1) (ix3 u v k) := by
  obtain ⟨i0, i1, i2, i3, i4, i5, i7, i8, hlt⟩ := idx t
  blk_point [iblk, V, i1]

theorem g_at (c : Dev nD) (t : Fin cfg0.N) (k : Fin 1024) :
    iblk m c 2 t (ix2 0 k) = m ((c : Thread nD τ).loc main_arg2) (ix1 k) := by
  obtain ⟨i0, i1, i2, i3, i4, i5, i7, i8, hlt⟩ := idx t
  blk_point [iblk, V, i2]

theorem xp_at (c : Dev nD) (t : Fin cfg0.N) (r : Fin 1024) (u : Fin 8) (v : Fin 2048) (k : Fin 1024)
    (h : 2048 * u.val + v.val = 1024 * min (t.val - 16) 15 + r.val) :
    iblk m c 0 t (ix2 r k) = m ((c : Thread nD τ).loc main_arg0) (ix3 u v k) := by
  obtain ⟨i0, i1, i2, i3, i4, i5, i7, i8, hlt⟩ := idx t
  have hu := u.isLt
  have hv := v.isLt
  have e0 : (1024 * min (t.val - 16) 15 + r.val) / 2048 = u.val := by omega
  have e1 : (1024 * min (t.val - 16) 15 + r.val) % 2048 = v.val := by omega
  blk_point [iblk, V, i0]

set_option maxHeartbeats 4000000 in
/-- The prompt rows after the run. -/
theorem finalP (c : Dev nD) : (dats m 0 c).arrAt 7 (cfgs 0).N
    = refP (m ((c : Thread nD τ).loc main_arg0)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  have hf' := hf
  rw [flush7, decide_eq_true_eq] at hf'
  obtain ⟨i0, i1, i2, i3, i4, i5, i7, i8, hlt⟩ := idx t
  have y0 : (y 0 : ℕ) < 1024 := (y 0).isLt
  have y1 : (y 1 : ℕ) < 1024 := (y 1).isLt
  blk_simp
  rw [after0_7]
  unfold outP
  refine (tileP _ _ _ _ _ _).trans (Eq.trans ?_ (refP_row _ _ _ _ _ _ ⟨(1024 * min (t.val - 16) 15 + (y 0).val) / 2048, by omega⟩
    ⟨(1024 * min (t.val - 16) 15 + (y 0).val) % 2048, by omega⟩ ⟨(y 1).val, y1⟩ ?_ ?_).symm)
  · exact ffn_congr (fun k => xp_at m c t _ _ _ k (Nat.div_add_mod _ _)) (g_at m c t) (W0_at m c) (W1_at m c) (W2_at m c) rfl
  · blk_simp [i7]
    exact (show _ = 1024 * min (t.val - 16) 15 + (y 0).val by omega).trans (Nat.div_add_mod _ 2048).symm
  · blk_simp [i7]

set_option maxHeartbeats 4000000 in
/-- The sample rows after the run. -/
theorem finalS (c : Dev nD) : (dats m 0 c).arrAt 8 (cfgs 0).N
    = refS (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  obtain ⟨i0, i1, i2, i3, i4, i5, i7, i8, hlt⟩ := idx t
  have y0 : (y 0 : ℕ) < 512 := (y 0).isLt
  have y1 : (y 1 : ℕ) < 1024 := (y 1).isLt
  blk_simp
  rw [after0_8]
  unfold outS
  refine (tileS _ _ _ _ _ _ ⟨(y 0).val % 128, by omega⟩ ⟨(y 0).val / 128, by omega⟩ ⟨(y 1).val, y1⟩ ?_ rfl).trans (Eq.trans ?_
    (refS_row _ _ _ _ _ _ ⟨(y 0).val % 128, by omega⟩ ⟨(y 0).val / 128, by omega⟩ ⟨(y 1).val, y1⟩ ?_ ?_).symm)
  · show (y 0 : ℕ) = 128 * ((y 0 : ℕ) / 128) + (y 0 : ℕ) % 128
    omega
  · exact ffn_congr (fun k => xs_at m c t _ _ k) (g_at m c t) (W0_at m c) (W1_at m c) (W2_at m c) rfl
  · blk_simp [i8]
    show (y 0 : ℕ) = 128 * ((y 0 : ℕ) / 128) + (y 0 : ℕ) % 128
    omega
  · blk_simp [i8]

end

end Cert.FfnVal
-- ==== Proof.AttnValue.lean ====
/- The attention call's prompt rows: each row with its four heads' weighted values projected and added, on the kernel's side
   and on the reference's, so the result array is the reference's. -/
module

public import proofs.«01_k».proof.Proof.FfnValue
public import proofs.«01_k».proof.Proof.AttnFrame
public import proofs.«01_k».proof.Proof.Gen.ReferenceIdeal.Run
public import Idealize.ShloMosaic.Lib.Pipeline.ValueKit
public import Idealize.ShloMosaic.Lib.KernelVsHost

@[expose] public section
set_option maxRecDepth 16384
noncomputable section

namespace Cert.AttnVal
open Idealize.ShloMosaic Idealize.ShloMosaic.TcCoe Idealize.ShloMosaic.Tactic
open Cert.FfnVal (rms)

/-- The column of head `h` at entry `e`. -/
def col (h : Fin 4) (e : Fin 256) : Fin 1024 := ⟨h.val * 256 + e.val, by omega⟩

/-- A row of scores' largest, none below the starting word. -/
def top (s : Fin 256 → EReal) : EReal := Finset.univ.fold max (Ideal.ofBits .f32 4286578688#32) s
theorem top_ge (s : Fin 256 → EReal) : max (Ideal.ofBits .f32 4286578688#32) (top s) = top s :=
  max_eq_right ((Finset.le_fold_max _).2 (Or.inl le_rfl))

/-- A row of scores made into weights. -/
def soft (s : Fin 256 → EReal) (l : Fin 256) : EReal := Ideal.div (Ideal.exp (s l - top s)) (∑ l, Ideal.exp (s l - top s))

/-- The score of a row's head `h` against memory row `l`. -/
def score (x g : Fin 1024 → EReal) (q : Fin 1024 → Fin 1024 → EReal) (k : Fin 256 → Fin 1024 → EReal) (h : Fin 4) (l : Fin 256) : EReal :=
  (∑ e, (∑ a, rms x g a * q a (col h e)) * k l (col h e)) * Ideal.ofBits .f32 1031798784#32

/-- The heads' weighted values, side by side. -/
def mixed (x g : Fin 1024 → EReal) (q : Fin 1024 → Fin 1024 → EReal) (k v : Fin 256 → Fin 1024 → EReal) (p : Fin 1024) : EReal :=
  ∑ l, soft (score x g q k ⟨p.val / 256, by omega⟩) l * v l p

/-- A row after the attention. -/
def attn (x g : Fin 1024 → EReal) (q : Fin 1024 → Fin 1024 → EReal) (k v : Fin 256 → Fin 1024 → EReal) (o : Fin 1024 → Fin 1024 → EReal)
    (j : Fin 1024) : EReal := x j + ∑ p, mixed x g q k v p * o p j

theorem attn_congr {x x' g g' : Fin 1024 → EReal} {q q' : Fin 1024 → Fin 1024 → EReal} {k k' v v' : Fin 256 → Fin 1024 → EReal}
    {o o' : Fin 1024 → Fin 1024 → EReal} {j j' : Fin 1024} (hx : ∀ a, x a = x' a) (hg : ∀ a, g a = g' a) (hq : ∀ a b, q a b = q' a b)
    (hk : ∀ a b, k a b = k' a b) (hv : ∀ a b, v a b = v' a b) (ho : ∀ a b, o a b = o' a b) (hj : j = j') :
    attn x g q k v o j = attn x' g' q' k' v' o' j' := by
  obtain rfl := funext hx
  obtain rfl := funext hg
  obtain rfl : q = q' := funext fun a => funext (hq a)
  obtain rfl : k = k' := funext fun a => funext (hk a)
  obtain rfl : v = v' := funext fun a => funext (hv a)
  obtain rfl : o = o' := funext fun a => funext (ho a)
  rw [hj]

theorem score_of (x g : Fin 1024 → EReal) (q : Fin 1024 → Fin 1024 → EReal) (k : Fin 256 → Fin 1024 → EReal) (h : Fin 4) (l : Fin 256)
    (qf kf : Fin 256 → EReal) (hq : ∀ e, qf e = ∑ a, rms x g a * q a (col h e)) (hk : ∀ e, kf e = k l (col h e)) :
    (∑ e, qf e * kf e) * Ideal.ofBits .f32 1031798784#32 = score x g q k h l := by
  obtain rfl := funext hq
  obtain rfl := funext hk
  rfl

theorem mixed_of (x g : Fin 1024 → EReal) (q : Fin 1024 → Fin 1024 → EReal) (k v : Fin 256 → Fin 1024 → EReal) (h : Fin 4) (p : Fin 1024)
    (hp : p.val / 256 = h.val) (s w : Fin 256 → EReal) (hs : ∀ l, s l = score x g q k h l) (hw : ∀ l, w l = v l p) :
    ∑ l, soft s l * w l = mixed x g q k v p := by
  obtain rfl : s = score x g q k h := funext hs
  obtain rfl := funext hw
  unfold mixed
  rw [show (⟨p.val / 256, by omega⟩ : Fin 4) = h from Fin.ext hp]

section
open Cert.ReferenceIdeal Cert.ReferenceIdeal.Gen Idealize.ShloMosaic.StableHlo

/-- The reference's queries, in heads. -/
def refQ (x : FVec Ideal S8x2048x1024 .f32) (g : FVec Ideal S1024 .f32) (w : FVec Ideal S1024x1024 .f32) : FVec Ideal S8x2048x4x256 .f32 :=
  shapeCast S8x2048x4x256 (Host.dotGeneral dot_S8x2048x1024_S1024x1024_S8x2048x1024_2_0_01_1_n_n none (mulf (mulf x
    (broadcastInDim S8x2048x1024 ![0, 1, 2] bcast_S8x2048x1_S8x2048x1024_0_1_2 (Host.rsqrt (addf (Host.divf (broadcastInDim S8x2048x1 ![0, 1]
    bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1
    (constant S_ .f32 0x358637BD#32)))))) (broadcastInDim S8x2048x1024 ![0, 1, 2] bcast_S1x1x1024_S8x2048x1024_0_1_2
    (broadcastInDim S1x1x1024 ![2] bcast_S1024_S1x1x1024_2 g))) w) shapeCasts_S8x2048x1024_S8x2048x4x256

/-- The reference's scores. -/
def refS (q : FVec Ideal S8x2048x4x256 .f32) (k : FVec Ideal S8x256x4x256 .f32) : FVec Ideal S8x4x2048x256 .f32 :=
  mulf (Host.dotGeneral dot_S8x2048x4x256_S8x256x4x256_S8x4x2048x256_3_3_1_1_02_02 none q k)
    (broadcastInDim S8x4x2048x256 ![] bcast_S_S8x4x2048x256 (constant S_ .f32 0x3D800000#32))

/-- The reference's rows' largest scores. -/
def refM (s : FVec Ideal S8x4x2048x256 .f32) : FVec Ideal S8x4x2048 .f32 :=
  Host.reduce FloatOps.maximumf s (constant S_ .f32 0xFF800000#32) reducesTo_S8x4x2048x256_S8x4x2048_d3 h_S_

/-- The reference's scores' exponentials, the row's largest taken off. -/
def refE (s : FVec Ideal S8x4x2048x256 .f32) (t : FVec Ideal S8x4x2048 .f32) : FVec Ideal S8x4x2048x256 .f32 :=
  Host.exp (subf s (broadcastInDim S8x4x2048x256 ![0, 1, 2, 3] bcast_S8x4x2048x1_S8x4x2048x256_0_1_2_3 (broadcastInDim S8x4x2048x1 ![0, 1, 2]
    bcast_S8x4x2048_S8x4x2048x1_0_1_2 (maximumf (broadcastInDim S8x4x2048 ![] bcast_S_S8x4x2048 (constant S_ .f32 0xFF800000#32)) t))))

/-- The reference's weights of the values. -/
def refW (e : FVec Ideal S8x4x2048x256 .f32) : FVec Ideal S8x4x2048x256 .f32 :=
  Host.divf e (broadcastInDim S8x4x2048x256 ![0, 1, 2, 3] bcast_S8x4x2048x1_S8x4x2048x256_0_1_2_3 (broadcastInDim S8x4x2048x1 ![0, 1, 2]
    bcast_S8x4x2048_S8x4x2048x1_0_1_2 (Host.reduceAdd e (constant S_ .f32 0x00000000#32) reducesTo_S8x4x2048x256_S8x4x2048_d3 h_S_)))

/-- The reference's rows from the weights. -/
def refO (x : FVec Ideal S8x2048x1024 .f32) (p : FVec Ideal S8x4x2048x256 .f32) (v : FVec Ideal S8x256x4x256 .f32) (w : FVec Ideal S1024x1024 .f32) :
    FVec Ideal S8x2048x1024 .f32 :=
  addf x (Host.dotGeneral dot_S8x2048x1024_S1024x1024_S8x2048x1024_2_0_01_1_n_n none (shapeCast S8x2048x1024 (transpose S8x2048x4x256 [0, 3, 1, 2]
    (Host.dotGeneral dot_S8x256x4x256_S8x4x2048x256_S8x4x256x2048_1_3_3_2_02_01 none v p) transposes_S8x4x256x2048_S8x2048x4x256_0_3_1_2)
    shapeCasts_S8x2048x4x256_S8x2048x1024) w)

/-- The reference's rows, from its arguments. -/
def refA (x : FVec Ideal S8x2048x1024 .f32) (k v : FVec Ideal S8x256x4x256 .f32) (g : FVec Ideal S1024 .f32) (q o : FVec Ideal S1024x1024 .f32) :
    FVec Ideal S8x2048x1024 .f32 :=
  refO x (refW (refE (refS (refQ x g q) k) (refM (refS (refQ x g q) k)))) v o

theorem res_eq (m : (ℓ : Loc nD τ sig) → Buf (Elt Ideal) ℓ) (c : Dev nD) : Value.res_main_v33 m c
    = refA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem refQ_at (x : FVec Ideal S8x2048x1024 .f32) (g : FVec Ideal S1024 .f32) (w : FVec Ideal S1024x1024 .f32) (u : Fin 8) (r : Fin 2048) (h : Fin 4) (e : Fin 256) :
    refQ x g w (ix4 u r h e) = ∑ a, rms (fun k => x (ix3 u r k)) (fun k => g (ix1 k)) a * w (ix2 a (col h e)) := by
  pointwise [refQ, rms, col]

theorem refS_at (q : FVec Ideal S8x2048x4x256 .f32) (k : FVec Ideal S8x256x4x256 .f32) (u : Fin 8) (r : Fin 2048) (h : Fin 4) (l : Fin 256) :
    refS q k (ix4 u h r l) = (∑ e, q (ix4 u r h e) * k (ix4 u l h e)) * Ideal.ofBits .f32 1031798784#32 := by
  pointwise [refS]

theorem refM_at (s : FVec Ideal S8x4x2048x256 .f32) (u : Fin 8) (r : Fin 2048) (h : Fin 4) :
    refM s (ix3 u h r) = top fun l => s (ix4 u h r l) := by
  unfold refM
  refine (congrFun (hostReduce_maximumf_eq_multiReduction (u := S_) s 0xFF800000#32 reducesTo_S8x4x2048x256_S8x4x2048_d3 h_S_ (by decide) (.inl rfl) rfl) (ix3 u h r)).trans ?_
  pointwise [top]

theorem refE_at (s : FVec Ideal S8x4x2048x256 .f32) (t : FVec Ideal S8x4x2048 .f32) (u : Fin 8) (r : Fin 2048) (h : Fin 4) (l : Fin 256) :
    refE s t (ix4 u h r l) = Ideal.exp (s (ix4 u h r l) - max (Ideal.ofBits .f32 4286578688#32) (t (ix3 u h r))) := by
  pointwise [refE]

theorem refW_at (e : FVec Ideal S8x4x2048x256 .f32) (u : Fin 8) (r : Fin 2048) (h : Fin 4) (l : Fin 256) :
    refW e (ix4 u h r l) = Ideal.div (e (ix4 u h r l)) (∑ l, e (ix4 u h r l)) := by
  pointwise [refW]

theorem soft_at (s : FVec Ideal S8x4x2048x256 .f32) (u : Fin 8) (r : Fin 2048) (h : Fin 4) (l : Fin 256) :
    refW (refE s (refM s)) (ix4 u h r l) = soft (fun l => s (ix4 u h r l)) l := by
  rw [refW_at]
  simp only [refE_at, refM_at, top_ge]
  rfl

theorem refO_at (x : FVec Ideal S8x2048x1024 .f32) (p : FVec Ideal S8x4x2048x256 .f32) (v : FVec Ideal S8x256x4x256 .f32) (w : FVec Ideal S1024x1024 .f32)
    (u : Fin 8) (r : Fin 2048) (j : Fin 1024) :
    refO x p v w (ix3 u r j) = x (ix3 u r j) + ∑ a : Fin 1024, (∑ l, v (ix4 u l ⟨a.val / 256, by omega⟩ ⟨a.val % 256, by omega⟩)
      * p (ix4 u ⟨a.val / 256, by omega⟩ r l)) * w (ix2 a j) := by
  pointwise [refO]

theorem refA_at (x : FVec Ideal S8x2048x1024 .f32) (k v : FVec Ideal S8x256x4x256 .f32) (g : FVec Ideal S1024 .f32) (q o : FVec Ideal S1024x1024 .f32)
    (i : S8x2048x1024.Idx) (u : Fin 8) (r : Fin 2048) (j : Fin 1024) (h0 : (i 0 : ℕ) = u.val) (h1 : (i 1 : ℕ) = r.val) (h2 : (i 2 : ℕ) = j.val) :
    refA x k v g q o i = attn (fun k => x (ix3 u r k)) (fun k => g (ix1 k)) (fun a b => q (ix2 a b))
      (fun l p => k (ix4 u l ⟨p.val / 256, by omega⟩ ⟨p.val % 256, by omega⟩)) (fun l p => v (ix4 u l ⟨p.val / 256, by omega⟩ ⟨p.val % 256, by omega⟩))
      (fun a b => o (ix2 a b)) j := by
  have hi : i = ix3 u r j := by
    funext a
    fin_cases a
    · exact Fin.ext h0
    · exact Fin.ext h1
    · exact Fin.ext h2
  subst hi
  unfold refA
  rw [refO_at]
  unfold attn
  refine congrArg _ (Finset.sum_congr rfl fun a _ => congrArg (· * o (ix2 a j)) ?_)
  refine Eq.trans (Finset.sum_congr rfl fun l _ => ?_) (mixed_of _ _ _ _ _ ⟨a.val / 256, by omega⟩ a rfl
    (fun l => refS (refQ x g q) k (ix4 u ⟨a.val / 256, by omega⟩ r l)) (fun l => v (ix4 u l ⟨a.val / 256, by omega⟩ ⟨a.val % 256, by omega⟩)) (fun l => ?_) fun l => rfl)
  · rw [soft_at]
    exact mul_comm _ _
  · rw [refS_at]
    refine score_of _ _ _ _ _ _ _ _ (fun e => refQ_at _ _ _ _ _ _ _) fun e => ?_
    have e1 : (⟨(col ⟨a.val / 256, by omega⟩ e).val / 256, by omega⟩ : Fin 4) = ⟨a.val / 256, by omega⟩ := Fin.ext (by simp only [col]; omega)
    have e2 : (⟨(col ⟨a.val / 256, by omega⟩ e).val % 256, by omega⟩ : Fin 256) = e := Fin.ext (by simp only [col]; omega)
    rw [e1, e2]
end

section
open Cert.KernelIdeal Cert.KernelIdeal.Gen Cert.AttnRun

theorem q_at (x : Vec Ideal S1x512x1024 .f32) (g : Vec Ideal S1x1024 .f32) (w : Vec Ideal S1024x1024 .bf16) (r : Fin 512) (j j' : Fin 1024) (h : j = j') :
    k0_pay10 (F := Ideal) x g w (ix2 r j) = ∑ k, rms (fun k => x (ix3 0 r k)) (fun k => g (ix2 0 k)) k * w (ix2 k j') := by
  subst h
  pointwise [k0_pay10, k0_pay9, rms]

theorem s0_at (q : FVec Ideal S512x1024 .bf16) (k : Vec Ideal S1x256x256 .bf16) (r : Fin 512) (l : Fin 256) :
    k0_pay17 (F := Ideal) q k (ix2 r l) = (∑ e : Fin 256, q (ix2 r ⟨e.val, by omega⟩) * k (ix3 0 l e)) * Ideal.ofBits .f32 1031798784#32 := by
  pointwise [k0_pay17]

theorem s256_at (q : FVec Ideal S512x1024 .bf16) (k : Vec Ideal S1x256x256 .bf16) (r : Fin 512) (l : Fin 256) :
    k0_pay18 (F := Ideal) q k (ix2 r l) = (∑ e : Fin 256, q (ix2 r ⟨256 + e.val, by omega⟩) * k (ix3 0 l e)) * Ideal.ofBits .f32 1031798784#32 := by
  pointwise [k0_pay18]

theorem s512_at (q : FVec Ideal S512x1024 .bf16) (k : Vec Ideal S1x256x256 .bf16) (r : Fin 512) (l : Fin 256) :
    k0_pay19 (F := Ideal) q k (ix2 r l) = (∑ e : Fin 256, q (ix2 r ⟨512 + e.val, by omega⟩) * k (ix3 0 l e)) * Ideal.ofBits .f32 1031798784#32 := by
  pointwise [k0_pay19]

theorem s768_at (q : FVec Ideal S512x1024 .bf16) (k : Vec Ideal S1x256x256 .bf16) (r : Fin 512) (l : Fin 256) :
    k0_pay20 (F := Ideal) q k (ix2 r l) = (∑ e : Fin 256, q (ix2 r ⟨768 + e.val, by omega⟩) * k (ix3 0 l e)) * Ideal.ofBits .f32 1031798784#32 := by
  pointwise [k0_pay20]

theorem p25_at (s : FVec Ideal S512x256 .f32) (r : Fin 512) (l : Fin 256) :
    k0_pay25 (F := Ideal) s (ix2 r l) = soft (fun l => s (ix2 r l)) l := by
  pointwise [k0_pay25, soft, top]

theorem p26_at (s : FVec Ideal S512x256 .f32) (r : Fin 512) (l : Fin 256) :
    k0_pay26 (F := Ideal) s (ix2 r l) = soft (fun l => s (ix2 r l)) l := by
  pointwise [k0_pay26, soft, top]

theorem p27_at (s : FVec Ideal S512x256 .f32) (r : Fin 512) (l : Fin 256) :
    k0_pay27 (F := Ideal) s (ix2 r l) = soft (fun l => s (ix2 r l)) l := by
  pointwise [k0_pay27, soft, top]

theorem head_at (x : Vec Ideal S1x256x1024 .bf16) (o : Nat) (h : ∀ a, (![0, 0, o] : Fin 3 → Nat) a + S1x256x256.size a ≤ S1x256x1024.size a)
    (l e : Fin 256) (p : Fin 1024) (hp : p.val = o + e.val) : headOf x o h (ix3 0 l e) = x (ix3 0 l p) := by
  unfold headOf
  show x _ = x _
  refine congrArg x (funext fun a => Fin.ext ?_)
  fin_cases a
  · simp
  · simp
  · simp [hp]

theorem o_at (x : Vec Ideal S1x512x1024 .f32) (s : FVec Ideal S512x256 .f32) (p0 p1 p2 : FVec Ideal S512x256 .bf16)
    (v0 v1 v2 v3 : Vec Ideal S1x256x256 .bf16) (w : Vec Ideal S1024x1024 .bf16) (r : Fin 512) (j : Fin 1024) (H : Fin 1024 → EReal)
    (h0 : ∀ (e : Fin 256) (a : Fin 1024), a.val = e.val → ∑ l, p0 (ix2 r l) * v0 (ix3 0 l e) = H a)
    (h1 : ∀ (e : Fin 256) (a : Fin 1024), a.val = 256 + e.val → ∑ l, p1 (ix2 r l) * v1 (ix3 0 l e) = H a)
    (h2 : ∀ (e : Fin 256) (a : Fin 1024), a.val = 512 + e.val → ∑ l, p2 (ix2 r l) * v2 (ix3 0 l e) = H a)
    (h3 : ∀ (e : Fin 256) (a : Fin 1024), a.val = 768 + e.val → ∑ l, soft (fun l => s (ix2 r l)) l * v3 (ix3 0 l e) = H a) :
    k0_pay29 (F := Ideal) (k0_pay9 x) s p0 p1 p2 (k0_pay28 s) v0 v1 v2 v3 w (ix3 0 r j) = x (ix3 0 r j) + ∑ a, H a * w (ix2 a j) := by
  pointwise [k0_pay29, k0_pay9, k0_pay28]
  refine congrArg _ (Finset.sum_congr rfl fun a _ => congrArg (· * w (ix2 a j)) ?_)
  have ha := a.isLt
  by_cases c0 : a.val < 256
  · rw [dif_pos c0]
    exact h0 ⟨a.val, c0⟩ a rfl
  rw [dif_neg c0]
  by_cases c1 : a.val - 256 < 256
  · rw [dif_pos c1]
    exact h1 ⟨a.val - 256, c1⟩ a (by show a.val = 256 + (a.val - 256); omega)
  rw [dif_neg c1]
  by_cases c2 : a.val - 256 - 256 < 256
  · rw [dif_pos c2]
    exact h2 ⟨a.val - 256 - 256, c2⟩ a (by show a.val = 512 + (a.val - 256 - 256); omega)
  rw [dif_neg c2]
  exact h3 ⟨a.val - 256 - 256 - 256, by omega⟩ a (by show a.val = 768 + (a.val - 256 - 256 - 256); omega)

theorem tile_at (x0 : Vec Ideal S1x512x1024 .f32) (x1 : Vec Ideal S1x1024 .f32) (x3 x4 : Vec Ideal S1x256x1024 .bf16) (s0 s1 : Vec Ideal S1024x1024 .bf16)
    (r : Fin 512) (j : Fin 1024) :
    tileOut x0 x1 x3 x4 s0 s1 (ix3 0 r j) = attn (fun k => x0 (ix3 0 r k)) (fun k => x1 (ix2 0 k)) (fun a b => s0 (ix2 a b))
      (fun l p => x3 (ix3 0 l p)) (fun l p => x4 (ix3 0 l p)) (fun a b => s1 (ix2 a b)) j := by
  unfold tileOut attn
  refine o_at _ _ _ _ _ _ _ _ _ _ _ _ _ (fun e a ha => ?_) (fun e a ha => ?_) (fun e a ha => ?_) (fun e a ha => ?_)
  · refine Eq.trans (Finset.sum_congr rfl fun l _ => congrArg (· * _) (p25_at _ r l)) (mixed_of _ _ _ _ _ 0 a (by show a.val / 256 = 0; omega) _ _ (fun l => ?_) fun l => head_at _ _ _ _ _ _ (by omega))
    rw [s0_at]
    exact score_of _ _ _ _ _ _ _ _ (fun e => q_at _ _ _ _ _ _ (Fin.ext (by simp [col]))) fun e => head_at _ _ _ _ _ _ (by simp [col])
  · refine Eq.trans (Finset.sum_congr rfl fun l _ => congrArg (· * _) (p26_at _ r l)) (mixed_of _ _ _ _ _ 1 a (by show a.val / 256 = 1; omega) _ _ (fun l => ?_) fun l => head_at _ _ _ _ _ _ (by omega))
    rw [s256_at]
    exact score_of _ _ _ _ _ _ _ _ (fun e => q_at _ _ _ _ _ _ (Fin.ext (by simp [col]))) fun e => head_at _ _ _ _ _ _ (by simp [col])
  · refine Eq.trans (Finset.sum_congr rfl fun l _ => congrArg (· * _) (p27_at _ r l)) (mixed_of _ _ _ _ _ 2 a (by show a.val / 256 = 2; omega) _ _ (fun l => ?_) fun l => head_at _ _ _ _ _ _ (by omega))
    rw [s512_at]
    exact score_of _ _ _ _ _ _ _ _ (fun e => q_at _ _ _ _ _ _ (Fin.ext (by simp [col]))) fun e => head_at _ _ _ _ _ _ (by simp [col])
  · refine Eq.trans (Finset.sum_congr rfl fun l _ => rfl) (mixed_of _ _ _ _ _ 3 a (by show a.val / 256 = 3; omega) _ _ (fun l => ?_) fun l => head_at _ _ _ _ _ _ (by omega))
    rw [s768_at]
    exact score_of _ _ _ _ _ _ _ _ (fun e => q_at _ _ _ _ _ _ (Fin.ext (by simp [col]))) fun e => head_at _ _ _ _ _ _ (by simp [col])

theorem idx : ∀ t : Fin cfg0.N, win0_0.index t = ![t.val / 4, t.val % 4, 0] ∧ win0_1.index t = ![0, 0] ∧ win0_2.index t = ![0, 0]
    ∧ win0_3.index t = ![t.val / 4, 0, 0] ∧ win0_4.index t = ![t.val / 4, 0, 0] ∧ win0_5.index t = ![0, 0]
    ∧ win0_7.index t = ![t.val / 4, t.val % 4, 0] ∧ t.val < 32 :=
  (by decide +kernel : ∀ t : Fin grid0.N, _)

variable (m : (ℓ : Loc nD τ sig) → Buf (Elt Ideal) ℓ)

theorem x_at (c : Dev nD) (t : Fin cfg0.N) (u : Fin 8) (v : Fin 2048) (r : Fin 512) (hu : u.val = t.val / 4) (hv : v.val = 512 * (t.val % 4) + r.val) (k : Fin 1024) :
    iblk m c 0 t (ix3 0 r k) = m ((c : Thread nD τ).loc main_arg0) (ix3 u v k) := by
  obtain ⟨i0, i1, i2, i3, i4, i5, i7, hlt⟩ := idx t
  blk_point [iblk, V, i0]
theorem g_at (c : Dev nD) (t : Fin cfg0.N) (k : Fin 1024) :
    iblk m c 1 t (ix2 0 k) = m ((c : Thread nD τ).loc main_arg3) (ix1 k) := by
  obtain ⟨i0, i1, i2, i3, i4, i5, i7, hlt⟩ := idx t
  blk_point [iblk, V, i1]
theorem k_at (c : Dev nD) (t : Fin cfg0.N) (u : Fin 8) (hu : u.val = t.val / 4) (l : Fin 256) (p : Fin 1024) :
    iblk m c 3 t (ix3 0 l p) = m ((c : Thread nD τ).loc main_arg1) (ix4 u l ⟨p.val / 256, by omega⟩ ⟨p.val % 256, by omega⟩) := by
  obtain ⟨i0, i1, i2, i3, i4, i5, i7, hlt⟩ := idx t
  blk_point [iblk, V, i3]
theorem v_at (c : Dev nD) (t : Fin cfg0.N) (u : Fin 8) (hu : u.val = t.val / 4) (l : Fin 256) (p : Fin 1024) :
    iblk m c 4 t (ix3 0 l p) = m ((c : Thread nD τ).loc main_arg2) (ix4 u l ⟨p.val / 256, by omega⟩ ⟨p.val % 256, by omega⟩) := by
  obtain ⟨i0, i1, i2, i3, i4, i5, i7, hlt⟩ := idx t
  blk_point [iblk, V, i4]
theorem wq_at (c : Dev nD) (a b : Fin 1024) : WQ m c (ix2 a b) = m ((c : Thread nD τ).loc main_arg4) (ix2 a b) := by
  obtain ⟨i0, i1, i2, i3, i4, i5, i7, hlt⟩ := idx pt0
  unfold WQ
  pointwise [k0_pay1]
  blk_point [iblk, V, i2]
theorem wo_at (c : Dev nD) (a b : Fin 1024) : WO m c (ix2 a b) = m ((c : Thread nD τ).loc main_arg5) (ix2 a b) := by
  obtain ⟨i0, i1, i2, i3, i4, i5, i7, hlt⟩ := idx pt0
  unfold WO
  pointwise [k0_pay2]
  blk_point [iblk, V, i5]

theorem tile_y (x0 : Vec Ideal S1x512x1024 .f32) (x1 : Vec Ideal S1x1024 .f32) (x3 x4 : Vec Ideal S1x256x1024 .bf16) (s0 s1 : Vec Ideal S1024x1024 .bf16)
    (y : S1x512x1024.Idx) (r : Fin 512) (j : Fin 1024) (h1 : (y 1 : ℕ) = r.val) (h2 : (y 2 : ℕ) = j.val) :
    tileOut x0 x1 x3 x4 s0 s1 y = attn (fun k => x0 (ix3 0 r k)) (fun k => x1 (ix2 0 k)) (fun a b => s0 (ix2 a b))
      (fun l p => x3 (ix3 0 l p)) (fun l p => x4 (ix3 0 l p)) (fun a b => s1 (ix2 a b)) j := by
  have y0 : (y 0 : ℕ) < 1 := (y 0).isLt
  have hy : y = ix3 0 r j := by
    funext a
    fin_cases a
    · exact Fin.ext (Nat.lt_one_iff.1 y0)
    · exact Fin.ext h1
    · exact Fin.ext h2
  rw [hy]
  exact tile_at _ _ _ _ _ _ _ _

theorem final (c : Dev nD) : (dats m 0 c).arrAt 7 (cfgs 0).N
    = refA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨i0, i1, i2, i3, i4, i5, i7, hlt⟩ := idx t
  have y0 : (y 0 : ℕ) < 1 := (y 0).isLt
  have y1 : (y 1 : ℕ) < 512 := (y 1).isLt
  have y2 : (y 2 : ℕ) < 1024 := (y 2).isLt
  blk_simp
  rw [after0_7]
  refine (tile_y _ _ _ _ _ _ y ⟨(y 1).val, y1⟩ ⟨(y 2).val, y2⟩ rfl rfl).trans (Eq.trans ?_
    (refA_at _ _ _ _ _ _ _ ⟨t.val / 4, by omega⟩ ⟨512 * (t.val % 4) + (y 1).val, by omega⟩ ⟨(y 2).val, y2⟩ ?_ ?_ ?_).symm)
  · exact attn_congr (x_at m c t _ _ _ rfl rfl) (g_at m c t) (wq_at m c) (k_at m c t _ rfl) (v_at m c t _ rfl) (wo_at m c) rfl
  · blk_simp [i7]
  · blk_simp [i7]
    exact congrArg (· + (y 1 : ℕ)) (Nat.mul_comm _ _)
  · blk_simp [i7]

/-- Every execution ends with the reference's rows in the prompt's array, the arguments as they began. -/
theorem run_value (ρ : Dev nD → PrngReg) : θ_run defs (onTc (τ := τ) (main (F := Ideal))) ⟨m, fun _ => 0, ρ⟩ (fun r => ∀ c : Dev nD,
    r.2.mem ((cfg0.spec 7).arr.view.loc (c.tc : Thread nD τ))
      = refA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) :=
  (θ_run defs _ _).mono (fun r h c => (out7 m r h c 7 rfl).trans (final m c)) (run_main m ρ)
end

end Cert.AttnVal
-- ==== Proof.LastRuns.lean ====
/- The body of the last feed-forward kernel, run once per kind of grid point on any staging memrefs: the points that
   copy a slab of each weight into the resident half-width copies, the points that work on a tile of the prompt, and the
   last point, that works on the sample rows. -/
module

public import proofs.«01_k».proof.Proof.FfnRuns
public import Idealize.ShloMosaic.Lib.Pipeline.ValueKit
public import proofs.«01_k».proof.Proof.Gen.LastIdeal.Frame
public import proofs.«01_k».proof.Proof.Gen.LastIdeal.Skeleton
public import Idealize.ShloMosaic.Lib.Claim
public import Idealize.ShloMosaic.Lib.WritesUnit
public import Idealize.ShloMosaic.Lib.VecWindow

@[expose] public section

set_option maxRecDepth 16384

noncomputable section

namespace Cert.LastRun

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Facts of the grid -/

theorem copies : ∀ t : Fin cfg0.N, k0_cond1 (grid0.coords t) = 1#1 ↔ t.val < 16 :=
  (by decide +kernel : ∀ t : Fin grid0.N, k0_cond1 (grid0.coords t) = 1#1 ↔ t.val < 16)
theorem prompts : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem samples : ∀ t : Fin cfg0.N, k0_cond3 (grid0.coords t) = 1#1 ↔ t.val = 32 :=
  (by decide +kernel : ∀ t : Fin grid0.N, k0_cond3 (grid0.coords t) = 1#1 ↔ t.val = 32)

theorem off1_eq : ∀ t : Fin cfg0.N, t.val < 16 → k0_off1 (grid0.coords t) = ![64 * t.val, 0] :=
  (by decide +kernel : ∀ t : Fin grid0.N, t.val < 16 → k0_off1 (grid0.coords t) = ![64 * t.val, 0])
theorem off2_eq : ∀ t : Fin cfg0.N, t.val < 16 → k0_off2 (grid0.coords t) = ![176 * t.val, 0] :=
  (by decide +kernel : ∀ t : Fin grid0.N, t.val < 16 → k0_off2 (grid0.coords t) = ![176 * t.val, 0])

/-- What a point stores for a tile of the prompt. -/
def tileOut (x0 : Vec F S1024x1024 .f32) (x2 x6 : Vec F S1x1024 .f32) (s0 : Vec F S1024x2816 .bf16) (s1 : Vec F S1024x2816 .bf16)
    (s2 : Vec F S2816x1024 .bf16) : Vec F S1024x1024 .f32 :=
  k0_pay4 (k0_pay9 x0 x2 s0 s1 s2) (k0_pay10 x6) (k0_pay11 x0 x2 s0 s1 s2) k0_pay12

/-- The four rows of each group, one group of rows after another. -/
def rows4 (x1 : Vec F S128x4x1024 .f32) : FVec F S512x1024 .f32 :=
  k0_pay13 (View.ld x1 (Rect.unit (s := S128x4x1024) ![0, 0, 0] S128x1x1024.size inb_S128x4x1024_S128x1x1024_0_0_0))
    (View.ld x1 (Rect.unit (s := S128x4x1024) ![0, 1, 0] S128x1x1024.size inb_S128x4x1024_S128x1x1024_0_1_0))
    (View.ld x1 (Rect.unit (s := S128x4x1024) ![0, 2, 0] S128x1x1024.size inb_S128x4x1024_S128x1x1024_0_2_0))
    (View.ld x1 (Rect.unit (s := S128x4x1024) ![0, 3, 0] S128x1x1024.size inb_S128x4x1024_S128x1x1024_0_3_0))

/-- The attention's heads for the first row of each group, side by side. -/
def heads0 (x7 : Vec F S128x16x256 .f32) : FVec F S128x1024 .f32 :=
  k0_pay14 (View.ld x7 (Rect.unit (s := S128x16x256) ![0, 0, 0] S128x1x256.size inb_S128x16x256_S128x1x256_0_0_0))
    (View.ld x7 (Rect.unit (s := S128x16x256) ![0, 1, 0] S128x1x256.size inb_S128x16x256_S128x1x256_0_1_0))
    (View.ld x7 (Rect.unit (s := S128x16x256) ![0, 2, 0] S128x1x256.size inb_S128x16x256_S128x1x256_0_2_0))
    (View.ld x7 (Rect.unit (s := S128x16x256) ![0, 3, 0] S128x1x256.size inb_S128x16x256_S128x1x256_0_3_0))

/-- The next three heads. -/
def head4 (x7 : Vec F S128x16x256 .f32) : FVec F S128x256 .f32 :=
  k0_pay15 (View.ld x7 (Rect.unit (s := S128x16x256) ![0, 4, 0] S128x1x256.size inb_S128x16x256_S128x1x256_0_4_0))

/-- The next three heads: the second. -/
def head5 (x7 : Vec F S128x16x256 .f32) : FVec F S128x256 .f32 :=
  k0_pay16 (View.ld x7 (Rect.unit (s := S128x16x256) ![0, 5, 0] S128x1x256.size inb_S128x16x256_S128x1x256_0_5_0))

/-- The next three heads: the third. -/
def head6 (x7 : Vec F S128x16x256 .f32) : FVec F S128x256 .f32 :=
  k0_pay17 (View.ld x7 (Rect.unit (s := S128x16x256) ![0, 6, 0] S128x1x256.size inb_S128x16x256_S128x1x256_0_6_0))

/-- The sample rows with the attention's projected, the four rows of each group one after another. -/
def sampleIn (x1 : Vec F S128x4x1024 .f32) (x7 : Vec F S128x16x256 .f32) (x8 : Vec F S1024x1024 .bf16) : FVec F S512x1024 .f32 :=
  k0_pay18 (rows4 x1) (heads0 x7) (head4 x7) (head5 x7) (head6 x7)
    (View.ld x7 (Rect.unit (s := S128x16x256) ![0, 7, 0] S128x1x256.size inb_S128x16x256_S128x1x256_0_7_0))
    (View.ld x7 (Rect.unit (s := S128x16x256) ![0, 8, 0] S128x1x256.size inb_S128x16x256_S128x1x256_0_8_0))
    (View.ld x7 (Rect.unit (s := S128x16x256) ![0, 9, 0] S128x1x256.size inb_S128x16x256_S128x1x256_0_9_0))
    (View.ld x7 (Rect.unit (s := S128x16x256) ![0, 10, 0] S128x1x256.size inb_S128x16x256_S128x1x256_0_10_0))
    (View.ld x7 (Rect.unit (s := S128x16x256) ![0, 11, 0] S128x1x256.size inb_S128x16x256_S128x1x256_0_11_0))
    (View.ld x7 (Rect.unit (s := S128x16x256) ![0, 12, 0] S128x1x256.size inb_S128x16x256_S128x1x256_0_12_0))
    (View.ld x7 (Rect.unit (s := S128x16x256) ![0, 13, 0] S128x1x256.size inb_S128x16x256_S128x1x256_0_13_0))
    (View.ld x7 (Rect.unit (s := S128x16x256) ![0, 14, 0] S128x1x256.size inb_S128x16x256_S128x1x256_0_14_0))
    (View.ld x7 (Rect.unit (s := S128x16x256) ![0, 15, 0] S128x1x256.size inb_S128x16x256_S128x1x256_0_15_0))
    x8

/-- What the last point computes for the sample rows. -/
def sampleRows (x1 : Vec F S128x4x1024 .f32) (x2 x6 : Vec F S1x1024 .f32) (x7 : Vec F S128x16x256 .f32) (x8 : Vec F S1024x1024 .bf16)
    (s0 : Vec F S1024x2816 .bf16) (s1 : Vec F S1024x2816 .bf16) (s2 : Vec F S2816x1024 .bf16) : FVec F S512x1024 .f32 :=
  k0_pay21 (sampleIn x1 x7 x8) (k0_pay19 x2) (mulf (sampleIn x1 x7 x8) (sampleIn x1 x7 x8)) s0 s1 s2 x6

/-- The same, each row back in its group. -/
def regroup (w : FVec F S512x1024 .f32) : Vec F S128x4x1024 .f32 := fun y =>
  w (ix2 (n0 := 512) (n1 := 1024) ⟨128 * (y 1).val + (y 0).val, by
    have h0 : (y 0).val < 128 := (y 0).isLt
    have h1 : (y 1).val < 4 := (y 1).isLt
    show _ < 512
    omega⟩ (⟨(y 2).val, (y 2).isLt⟩ : Fin 1024))

/-- Four stores, one row of every group each, leave the rows back in their groups. -/
theorem regroup_of_stores {v : Memref sig .tc .vmem S128x4x1024 .f32} (f : v.view.ty.Contents (Elt F)) (w : FVec F S512x1024 .f32) :
    v.view.read (Elt F) (v.view.writes (Elt F) f
      [⟨Rect.unit (s := S128x4x1024) ![0, 3, 0] S128x1x1024.size inb_S128x4x1024_S128x1x1024_0_3_0, k0_pay8 w⟩,
        ⟨Rect.unit (s := S128x4x1024) ![0, 2, 0] S128x1x1024.size inb_S128x4x1024_S128x1x1024_0_2_0, k0_pay7 w⟩,
        ⟨Rect.unit (s := S128x4x1024) ![0, 1, 0] S128x1x1024.size inb_S128x4x1024_S128x1x1024_0_1_0, k0_pay6 w⟩,
        ⟨Rect.unit (s := S128x4x1024) ![0, 0, 0] S128x1x1024.size inb_S128x4x1024_S128x1x1024_0_0_0,
          k0_pay5 (extractStridedSlice S128x1024 ![0, 0] w slices_S512x1024_o0_0_S128x1024)⟩]) = regroup w := by
  funext y
  refine View.read_writes_apply_of_pieces _ _ (regroup w) _ ?_ y (View.cover_of_tiled (s := S128x4x1024) _ ![128, 1, 1024] rfl y)
  intro p hp x
  simp only [List.mem_cons, List.not_mem_nil, or_false] at hp
  rcases hp with rfl | rfl | rfl | rfl
  all_goals
    pointwise [k0_pay5, k0_pay6, k0_pay7, k0_pay8, regroup]
    refine congrArg w ?_
    have h1 : (x 1).val < 1 := (x 1).isLt
    funext a
    fin_cases a
    all_goals
      refine Fin.ext ?_
      simp [ix2, Rect.emb, Rect.unit]
      try omega

set_option maxHeartbeats 4000000 in
/-- A point of the first kind: one slab of each weight, cast to half width, goes into its resident copy. -/
theorem runA (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (hc0 : k0_cond1 i = 1#1) (hc1 : ¬k0_cond2 i = 1#1) (hc2 : ¬k0_cond3 i = 1#1)
    (x3 : Vec F S64x2816 .f32) (x4 : Vec F S64x2816 .f32) (x5 : Vec F S176x1024 .f32)
    (s0 : Vec F S1024x2816 .bf16) (s1 : Vec F S1024x2816 .bf16) (s2 : Vec F S2816x1024 .bf16)
    {o1 o2 : ℕ} (ho1 : k0_off1 i = ![o1, 0]) (ho2 : k0_off2 i = ![o2, 0]) (E : Set ℕ) (K : PUnit → sProp 𝕄) :
    iprop(owns (c : Thread nD τ) arg4 fullShare x3 ∗ owns (c : Thread nD τ) arg5 fullShare x4 ∗ owns (c : Thread nD τ) arg6 fullShare x5
        ∗ owns (c : Thread nD τ) arg12 fullShare s0 ∗ owns (c : Thread nD τ) arg13 fullShare s1 ∗ owns (c : Thread nD τ) arg14 fullShare s2
        ∗ (iprop(owns (c : Thread nD τ) arg4 fullShare x3 ∗ owns (c : Thread nD τ) arg5 fullShare x4 ∗ owns (c : Thread nD τ) arg6 fullShare x5
          ∗ (∃ d, ⌜Slab o1 (k0_pay1 x3) s0 d⌝ ∗ owns (c : Thread nD τ) arg12 fullShare d)
          ∗ (∃ d, ⌜Slab o1 (k0_pay2 x4) s1 d⌝ ∗ owns (c : Thread nD τ) arg13 fullShare d)
          ∗ (∃ d, ⌜Slab o2 (k0_pay3 x5) s2 d⌝ ∗ owns (c : Thread nD τ) arg14 fullShare d)) -∗ K ⟨⟩))
      ⊢ wp frame (wpE (defs₀ (F := F)) Variants.none c none) E (cc0_ffn_final i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_final_eq_skeleton]; unfold cc0_ffn_final_skel
  unfold owns
  iintro ⟨⟨%f3, %hf3, H3⟩, ⟨%f4, %hf4, H4⟩, ⟨%f5, %hf5, H5⟩, ⟨%g0, %hg0, S0⟩, ⟨%g1, %hg1, S1⟩, ⟨%g2, %hg2, S2⟩, Hk⟩
  obtain rfl := harg4.eq_unread hf3; obtain rfl := harg5.eq_unread hf4; obtain rfl := harg6.eq_unread hf5
  obtain rfl := harg12.eq_unread hg0; obtain rfl := harg13.eq_unread hg1; obtain rfl := harg14.eq_unread hg2
  sl_exec (disch := first | sl_exact hc0 | sl_exact hc1 | sl_exact hc2)
  sl_step
  iapply Hk
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [S0]
  · iexists _; isplitr; swap
    · iexists _; isplitr; swap; · iexact S0
      ipureintro; rfl
    ipureintro
    rw [View.readAt_full, harg4.read_unread]
    exact FfnRun.slab_of_store harg12 _ _ _ ho1
  isplitl [S1]
  · iexists _; isplitr; swap
    · iexists _; isplitr; swap; · iexact S1
      ipureintro; rfl
    ipureintro
    rw [View.readAt_full, harg5.read_unread]
    exact FfnRun.slab_of_store harg13 _ _ _ ho1
  iexists _; isplitr; swap
  · iexists _; isplitr; swap; · iexact S2
    ipureintro; rfl
  ipureintro
  rw [View.readAt_full, harg6.read_unread]
  exact FfnRun.slab_of_store harg14 _ _ _ ho2

set_option maxHeartbeats 4000000 in
/-- A point of the second kind: a tile of the prompt. -/
theorem runB (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (hc0 : ¬k0_cond1 i = 1#1) (hc1 : k0_cond2 i = 1#1) (hc2 : ¬k0_cond3 i = 1#1)
    (x0 : Vec F S1024x1024 .f32) (x2 x6 : Vec F S1x1024 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg3 fullShare x2 ∗ owns (c : Thread nD τ) arg7 fullShare x6 ∗ owns (c : Thread nD τ) arg12 fullShare s0 ∗ owns (c : Thread nD τ) arg13 fullShare s1 ∗ owns (c : Thread nD τ) arg14 fullShare s2 ∗ (∃ d, owns (c : Thread nD τ) arg10 fullShare d)
        ∗ (iprop(owns (c : Thread nD τ) arg1 fullShare x0 ∗ owns (c : Thread nD τ) arg3 fullShare x2 ∗ owns (c : Thread nD τ) arg7 fullShare x6 ∗ owns (c : Thread nD τ) arg12 fullShare s0 ∗ owns (c : Thread nD τ) arg13 fullShare s1 ∗ owns (c : Thread nD τ) arg14 fullShare s2 ∗ owns (c : Thread nD τ) arg10 fullShare (tileOut x0 x2 x6 s0 s1 s2)) -∗ K ⟨⟩))
      ⊢ wp frame (wpE (defs₀ (F := F)) Variants.none c none) E (cc0_ffn_final i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_final_eq_skeleton]; unfold cc0_ffn_final_skel
  simp only [k0_part1_eq_skeleton]; unfold k0_part1_skel
  unfold owns
  iintro ⟨⟨%f1, %hf1, H1⟩, ⟨%f3, %hf3, H3⟩, ⟨%f7, %hf7, H7⟩, ⟨%f12, %hf12, H12⟩, ⟨%f13, %hf13, H13⟩, ⟨%f14, %hf14, H14⟩, ⟨%d, %f, -, H⟩, Hk⟩
  obtain rfl := harg1.eq_unread hf1
  obtain rfl := harg3.eq_unread hf3
  obtain rfl := harg7.eq_unread hf7
  obtain rfl := harg12.eq_unread hf12
  obtain rfl := harg13.eq_unread hf13
  obtain rfl := harg14.eq_unread hf14
  sl_exec (disch := first | sl_exact hc0 | sl_exact hc1 | sl_exact hc2)
  sl_step
  iapply Hk
  isplitl [H1]
  · iexists _; isplitr; · ipureintro; exact harg1.read_unread _
    iexact H1
  isplitl [H3]
  · iexists _; isplitr; · ipureintro; exact harg3.read_unread _
    iexact H3
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  iexists _; isplitr; swap; · iexact H
  ipureintro
  rw [View.read_writes_full]
  rw [View.readAt_full arg1.view (harg1.unread x0), harg1.read_unread, View.readAt_full arg3.view (harg3.unread x2), harg3.read_unread, View.readAt_full arg7.view (harg7.unread x6), harg7.read_unread, View.readAt_full arg12.view (harg12.unread s0), harg12.read_unread, View.readAt_full arg13.view (harg13.unread s1), harg13.read_unread, View.readAt_full arg14.view (harg14.unread s2), harg14.read_unread]
  rfl

set_option maxHeartbeats 4000000 in
/-- The first part of the last point: it reads the rows and the first seven heads. -/
theorem part2 (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (x1 : Vec F S128x4x1024 .f32) (x7 : Vec F S128x16x256 .f32) (E : Set ℕ) (K : (Σ' (_ : FVec F S512x1024 .f32) (_ : FVec F S128x1024 .f32) (_ : FVec F S128x256 .f32) (_ : FVec F S128x256 .f32), FVec F S128x256 .f32) → sProp 𝕄) :
    iprop(owns (c : Thread nD τ) arg2 fullShare x1 ∗ owns (c : Thread nD τ) arg8 fullShare x7 ∗ (iprop(owns (c : Thread nD τ) arg2 fullShare x1 ∗ owns (c : Thread nD τ) arg8 fullShare x7) -∗ K ⟨rows4 x1, heads0 x7, head4 x7, head5 x7, head6 x7⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14) K := by
  simp only [k0_part2_eq_skeleton]; unfold k0_part2_skel
  unfold owns
  iintro ⟨⟨%f2, %hf2, H2⟩, ⟨%f8, %hf8, H8⟩, Hk⟩
  obtain rfl := harg2.eq_unread hf2
  obtain rfl := harg8.eq_unread hf8
  sl_exec
  sl_step
  simp -proj -dsimp only [View.readAt_eq_ld, harg2.read_unread, harg8.read_unread]
  unfold rows4 heads0 head4 head5 head6
  iapply Hk
  isplitl [H2]
  · iexists _; isplitr; · ipureintro; exact harg2.read_unread _
    iexact H2
  iexists _; isplitr; · ipureintro; exact harg8.read_unread _
  iexact H8

set_option maxHeartbeats 4000000 in
/-- The second part: it reads the other heads and the projection. -/
theorem part3 (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (x2 : Vec F S1x1024 .f32) (x7 : Vec F S128x16x256 .f32) (x8 : Vec F S1024x1024 .bf16) (v19 : FVec F S512x1024 .f32) (v28 : FVec F S128x1024 .f32) (v30 v32 v34 : FVec F S128x256 .f32) (E : Set ℕ) (K : (Σ' (_ : FVec F S512x1024 .f32) (_ : FVec F S1x1024 .f32), FVec F S512x1024 .f32) → sProp 𝕄) :
    iprop(owns (c : Thread nD τ) arg3 fullShare x2 ∗ owns (c : Thread nD τ) arg8 fullShare x7 ∗ owns (c : Thread nD τ) arg9 fullShare x8 ∗ (iprop(owns (c : Thread nD τ) arg3 fullShare x2 ∗ owns (c : Thread nD τ) arg8 fullShare x7 ∗ owns (c : Thread nD τ) arg9 fullShare x8) -∗ K ⟨k0_pay18 v19 v28 v30 v32 v34
      (View.ld x7 (Rect.unit (s := S128x16x256) ![0, 7, 0] S128x1x256.size inb_S128x16x256_S128x1x256_0_7_0))
      (View.ld x7 (Rect.unit (s := S128x16x256) ![0, 8, 0] S128x1x256.size inb_S128x16x256_S128x1x256_0_8_0))
      (View.ld x7 (Rect.unit (s := S128x16x256) ![0, 9, 0] S128x1x256.size inb_S128x16x256_S128x1x256_0_9_0))
      (View.ld x7 (Rect.unit (s := S128x16x256) ![0, 10, 0] S128x1x256.size inb_S128x16x256_S128x1x256_0_10_0))
      (View.ld x7 (Rect.unit (s := S128x16x256) ![0, 11, 0] S128x1x256.size inb_S128x16x256_S128x1x256_0_11_0))
      (View.ld x7 (Rect.unit (s := S128x16x256) ![0, 12, 0] S128x1x256.size inb_S128x16x256_S128x1x256_0_12_0))
      (View.ld x7 (Rect.unit (s := S128x16x256) ![0, 13, 0] S128x1x256.size inb_S128x16x256_S128x1x256_0_13_0))
      (View.ld x7 (Rect.unit (s := S128x16x256) ![0, 14, 0] S128x1x256.size inb_S128x16x256_S128x1x256_0_14_0))
      (View.ld x7 (Rect.unit (s := S128x16x256) ![0, 15, 0] S128x1x256.size inb_S128x16x256_S128x1x256_0_15_0)) x8, k0_pay19 x2, k0_pay20 v19 v28 v30 v32 v34
      (View.ld x7 (Rect.unit (s := S128x16x256) ![0, 7, 0] S128x1x256.size inb_S128x16x256_S128x1x256_0_7_0))
      (View.ld x7 (Rect.unit (s := S128x16x256) ![0, 8, 0] S128x1x256.size inb_S128x16x256_S128x1x256_0_8_0))
      (View.ld x7 (Rect.unit (s := S128x16x256) ![0, 9, 0] S128x1x256.size inb_S128x16x256_S128x1x256_0_9_0))
      (View.ld x7 (Rect.unit (s := S128x16x256) ![0, 10, 0] S128x1x256.size inb_S128x16x256_S128x1x256_0_10_0))
      (View.ld x7 (Rect.unit (s := S128x16x256) ![0, 11, 0] S128x1x256.size inb_S128x16x256_S128x1x256_0_11_0))
      (View.ld x7 (Rect.unit (s := S128x16x256) ![0, 12, 0] S128x1x256.size inb_S128x16x256_S128x1x256_0_12_0))
      (View.ld x7 (Rect.unit (s := S128x16x256) ![0, 13, 0] S128x1x256.size inb_S128x16x256_S128x1x256_0_13_0))
      (View.ld x7 (Rect.unit (s := S128x16x256) ![0, 14, 0] S128x1x256.size inb_S128x16x256_S128x1x256_0_14_0))
      (View.ld x7 (Rect.unit (s := S128x16x256) ![0, 15, 0] S128x1x256.size inb_S128x16x256_S128x1x256_0_15_0)) x8⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 v19 v28 v30 v32 v34) K := by
  simp only [k0_part3_eq_skeleton]; unfold k0_part3_skel
  unfold owns
  iintro ⟨⟨%f3, %hf3, H3⟩, ⟨%f8, %hf8, H8⟩, ⟨%f9, %hf9, H9⟩, Hk⟩
  obtain rfl := harg3.eq_unread hf3
  obtain rfl := harg8.eq_unread hf8
  obtain rfl := harg9.eq_unread hf9
  sl_exec
  sl_step
  rw [View.readAt_full arg9.view (harg9.unread x8), harg9.read_unread, View.readAt_full arg3.view (harg3.unread x2), harg3.read_unread]
  simp -proj -dsimp only [View.readAt_eq_ld, harg8.read_unread]
  iapply Hk
  isplitl [H3]
  · iexists _; isplitr; · ipureintro; exact harg3.read_unread _
    iexact H3
  isplitl [H8]
  · iexists _; isplitr; · ipureintro; exact harg8.read_unread _
    iexact H8
  iexists _; isplitr; · ipureintro; exact harg9.read_unread _
  iexact H9

set_option maxHeartbeats 4000000 in
/-- The third part: it reads the three resident weights. -/
theorem part4 (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (x6 : Vec F S1x1024 .f32) (s0 : Vec F S1024x2816 .bf16) (s1 : Vec F S1024x2816 .bf16) (s2 : Vec F S2816x1024 .bf16) (v61 : FVec F S512x1024 .f32) (v63 : FVec F S1x1024 .f32) (v64 : FVec F S512x1024 .f32) (E : Set ℕ) (K : (Σ' (_ : FVec F S512x1024 .f32), FVec F S128x1024 .f32) → sProp 𝕄) :
    iprop(owns (c : Thread nD τ) arg7 fullShare x6 ∗ owns (c : Thread nD τ) arg12 fullShare s0 ∗ owns (c : Thread nD τ) arg13 fullShare s1 ∗ owns (c : Thread nD τ) arg14 fullShare s2 ∗ (iprop(owns (c : Thread nD τ) arg7 fullShare x6 ∗ owns (c : Thread nD τ) arg12 fullShare s0 ∗ owns (c : Thread nD τ) arg13 fullShare s1 ∗ owns (c : Thread nD τ) arg14 fullShare s2) -∗ K ⟨k0_pay21 v61 v63 v64 s0 s1 s2 x6, k0_pay22 v61 v63 v64 s0 s1 s2 x6⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 v61 v63 v64) K := by
  simp only [k0_part4_eq_skeleton]; unfold k0_part4_skel
  unfold owns
  iintro ⟨⟨%f7, %hf7, H7⟩, ⟨%f12, %hf12, H12⟩, ⟨%f13, %hf13, H13⟩, ⟨%f14, %hf14, H14⟩, Hk⟩
  obtain rfl := harg7.eq_unread hf7
  obtain rfl := harg12.eq_unread hf12
  obtain rfl := harg13.eq_unread hf13
  obtain rfl := harg14.eq_unread hf14
  sl_exec
  sl_step
  rw [View.readAt_full arg7.view (harg7.unread x6), harg7.read_unread, View.readAt_full arg12.view (harg12.unread s0), harg12.read_unread, View.readAt_full arg13.view (harg13.unread s1), harg13.read_unread, View.readAt_full arg14.view (harg14.unread s2), harg14.read_unread]
  iapply Hk
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  iexists _; isplitr; · ipureintro; exact harg14.read_unread _
  iexact H14

set_option maxHeartbeats 4000000 in
/-- The last point: the sample rows. -/
theorem runC (c : Dev nD) (i : grid0.Coords) (arg1 : Memref sig .tc .vmem S1024x1024 .f32) (harg1 : arg1.IsWhole) (arg2 : Memref sig .tc .vmem S128x4x1024 .f32) (harg2 : arg2.IsWhole) (arg3 : Memref sig .tc .vmem S1x1024 .f32) (harg3 : arg3.IsWhole) (arg4 : Memref sig .tc .vmem S64x2816 .f32) (harg4 : arg4.IsWhole) (arg5 : Memref sig .tc .vmem S64x2816 .f32) (harg5 : arg5.IsWhole) (arg6 : Memref sig .tc .vmem S176x1024 .f32) (harg6 : arg6.IsWhole) (arg7 : Memref sig .tc .vmem S1x1024 .f32) (harg7 : arg7.IsWhole) (arg8 : Memref sig .tc .vmem S128x16x256 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S128x4x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole)
    (hc0 : ¬k0_cond1 i = 1#1) (hc1 : ¬k0_cond2 i = 1#1) (hc2 : k0_cond3 i = 1#1)
    (x1 : Vec F S128x4x1024 .f32) (x2 x6 : Vec F S1x1024 .f32) (x7 : Vec F S128x16x256 .f32) (x8 : Vec F S1024x1024 .bf16) (s0 : Vec F S1024x2816 .bf16) (s1 : Vec F S1024x2816 .bf16) (s2 : Vec F S2816x1024 .bf16) (E : Set ℕ) (K : PUnit → sProp 𝕄) :
    iprop(owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg12 fullShare s0 ∗ owns (c : Thread nD τ) arg13 fullShare s1 ∗ owns (c : Thread nD τ) arg14 fullShare s2 ∗ (∃ d, owns (c : Thread nD τ) arg11 fullShare d)
        ∗ (iprop(owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg12 fullShare s0 ∗ owns (c : Thread nD τ) arg13 fullShare s1 ∗ owns (c : Thread nD τ) arg14 fullShare s2 ∗ owns (c : Thread nD τ) arg11 fullShare (regroup (sampleRows x1 x2 x6 x7 x8 s0 s1 s2))) -∗ K ⟨⟩))
      ⊢ wp frame (wpE (defs₀ (F := F)) Variants.none c none) E (cc0_ffn_final i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_final_eq_skeleton]; unfold cc0_ffn_final_skel
  iintro ⟨H2, H3, H7, H8, H9, H12, H13, H14, H, Hk⟩
  sl_exec (disch := first | sl_exact hc0 | sl_exact hc1 | sl_exact hc2)
  iapply (part2 c i arg1 harg1 arg2 harg2 arg3 harg3 arg4 harg4 arg5 harg5 arg6 harg6 arg7 harg7 arg8 harg8 arg9 harg9 arg10 harg10 arg11 harg11 arg12 harg12 arg13 harg13 arg14 harg14 x1 x7 E _)
  isplitl [H2]; · iexact H2
  isplitl [H8]; · iexact H8
  iintro ⟨H2, H8⟩
  sl_exec
  iapply (part3 c i arg1 harg1 arg2 harg2 arg3 harg3 arg4 harg4 arg5 harg5 arg6 harg6 arg7 harg7 arg8 harg8 arg9 harg9 arg10 harg10 arg11 harg11 arg12 harg12 arg13 harg13 arg14 harg14 x2 x7 x8 (rows4 x1) (heads0 x7) (head4 x7) (head5 x7) (head6 x7) E _)
  isplitl [H3]; · iexact H3
  isplitl [H8]; · iexact H8
  isplitl [H9]; · iexact H9
  iintro ⟨H3, H8, H9⟩
  sl_exec
  iapply (part4 c i arg1 harg1 arg2 harg2 arg3 harg3 arg4 harg4 arg5 harg5 arg6 harg6 arg7 harg7 arg8 harg8 arg9 harg9 arg10 harg10 arg11 harg11 arg12 harg12 arg13 harg13 arg14 harg14 x6 s0 s1 s2 _ _ _ E _)
  isplitl [H7]; · iexact H7
  isplitl [H12]; · iexact H12
  isplitl [H13]; · iexact H13
  isplitl [H14]; · iexact H14
  iintro ⟨H7, H12, H13, H14⟩
  unfold owns
  icases H with ⟨%d, %f, -, H⟩
  sl_exec
  sl_step
  iapply Hk
  isplitl [H2]; · iexact H2
  isplitl [H3]; · iexact H3
  isplitl [H7]; · iexact H7
  isplitl [H8]; · iexact H8
  isplitl [H9]; · iexact H9
  isplitl [H12]; · iexact H12
  isplitl [H13]; · iexact H13
  isplitl [H14]; · iexact H14
  iexists _; isplitr; swap; · iexact H
  ipureintro
  exact regroup_of_stores (v := arg11) _ (sampleRows x1 x2 x6 x7 x8 s0 s1 s2)

end Cert.LastRun

end
-- ==== Proof.LastFrame.lean ====
/- The last feed-forward kernel's run: what every grid point leaves, the resident weights followed slab by slab, and
   from it the launch of the whole program, for any float values. -/
module

public import proofs.«01_k».proof.Proof.LastRuns
public import proofs.«01_k».proof.Proof.FfnFrame
public import Idealize.ShloMosaic.Lib.Pipeline.ValueKit
public import Idealize.ShloMosaic.Lib.Pipeline.TableIdle

@[expose] public section

set_option maxRecDepth 16384

noncomputable section

namespace Cert.LastRun

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resident weights -/

/-- The three weights at half width, whole. -/
def W0 (c : Dev nD) : Vec F S1024x2816 .bf16 := truncf .bf16 (V m c main_arg3 : FVec F S1024x2816 .f32) bitsLt_bf16_f32
def W1 (c : Dev nD) : Vec F S1024x2816 .bf16 := truncf .bf16 (V m c main_arg4 : FVec F S1024x2816 .f32) bitsLt_bf16_f32
def W2 (c : Dev nD) : Vec F S2816x1024 .bf16 := truncf .bf16 (V m c main_arg5 : FVec F S2816x1024 .f32) bitsLt_bf16_f32

theorem idx : ∀ t : Fin cfg0.N, win0_0.index t = ![min (t.val - 16) 15, 0] ∧ win0_1.index t = ![0, 0, 0] ∧ win0_2.index t = ![0, 0]
    ∧ win0_3.index t = ![min t.val 15, 0] ∧ win0_4.index t = ![min t.val 15, 0] ∧ win0_5.index t = ![min t.val 15, 0]
    ∧ win0_9.index t = ![min (t.val - 16) 15, 0] ∧ win0_10.index t = ![0, 0, 0] ∧ t.val < 33 :=
  (by decide +kernel : ∀ t : Fin grid0.N, _)

theorem idxc : ∀ t : Fin cfg0.N, win0_6.index t = ![0, 0] ∧ win0_7.index t = ![0, 0, 0] ∧ win0_8.index t = ![0, 0] :=
  (by decide +kernel : ∀ t : Fin grid0.N, _)

/-- A copied slab's entry is the whole weight's at its row. -/
theorem slab0_at (c : Dev nD) (t : Fin cfg0.N) (ht : t.val < 16) (x : S64x2816.Idx) (y : S1024x2816.Idx)
    (h0 : (y 0).val = 64 * t.val + (x 0).val) (h1 : (y 1).val = (x 1).val) :
    k0_pay1 (iblk m c 3 t) x = W0 m c y := by
  obtain ⟨-, -, -, e3, e4, e5, -⟩ := idx t
  have hr : iblk m c 3 t x = V m c main_arg3 y := by
    blk_ext [iblk, e3]
  unfold k0_pay1 W0
  rw [shapeCast_id]
  exact congrArg _ hr

/-- A copied slab's entry is the whole weight's at its row. -/
theorem slab1_at (c : Dev nD) (t : Fin cfg0.N) (ht : t.val < 16) (x : S64x2816.Idx) (y : S1024x2816.Idx)
    (h0 : (y 0).val = 64 * t.val + (x 0).val) (h1 : (y 1).val = (x 1).val) :
    k0_pay2 (iblk m c 4 t) x = W1 m c y := by
  obtain ⟨-, -, -, e3, e4, e5, -⟩ := idx t
  have hr : iblk m c 4 t x = V m c main_arg4 y := by
    blk_ext [iblk, e4]
  unfold k0_pay2 W1
  rw [shapeCast_id]
  exact congrArg _ hr

/-- A copied slab's entry is the whole weight's at its row. -/
theorem slab2_at (c : Dev nD) (t : Fin cfg0.N) (ht : t.val < 16) (x : S176x1024.Idx) (y : S2816x1024.Idx)
    (h0 : (y 0).val = 176 * t.val + (x 0).val) (h1 : (y 1).val = (x 1).val) :
    k0_pay3 (iblk m c 5 t) x = W2 m c y := by
  obtain ⟨-, -, -, e3, e4, e5, -⟩ := idx t
  have hr : iblk m c 5 t x = V m c main_arg5 y := by
    blk_ext [iblk, e5]
  unfold k0_pay3 W2
  rw [shapeCast_id]
  exact congrArg _ hr

/-! ## What each point leaves -/

/-- The prompt tile at a point, and the sample rows at the last. -/
def outP (c : Dev nD) (t : Fin cfg0.N) : Vec F S1024x1024 .f32 :=
  tileOut (iblk m c 0 t) (iblk m c 2 t) (iblk m c 6 t) (W0 m c) (W1 m c) (W2 m c)
def outS (c : Dev nD) (t : Fin cfg0.N) : Vec F S128x4x1024 .f32 :=
  regroup (sampleRows (iblk m c 1 t) (iblk m c 2 t) (iblk m c 6 t) (iblk m c 7 t) (iblk m c 8 t) (W0 m c) (W1 m c) (W2 m c))

abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2

/-- Before point `k` the first `k` slabs of each resident weight are in place. -/
def Held (c : Dev nD) (k : ℕ) : sProp 𝕄 :=
  iprop((∃ d, ⌜FfnRun.Upto (64 * min k 16) (W0 m c) d⌝ ∗ owns (c : Thread nD τ) sc0 fullShare d)
    ∗ (∃ d, ⌜FfnRun.Upto (64 * min k 16) (W1 m c) d⌝ ∗ owns (c : Thread nD τ) sc1 fullShare d)
    ∗ (∃ d, ⌜FfnRun.Upto (176 * min k 16) (W2 m c) d⌝ ∗ owns (c : Thread nD τ) sc2 fullShare d)
    ∗ (∃ r, prngReg c r))

/-- From point 16 on they are whole. -/
theorem Held_full (c : Dev nD) (k : ℕ) (hk : 16 ≤ k) :
    Held m c k ⊢ iprop(owns (c : Thread nD τ) sc0 fullShare (W0 m c) ∗ owns (c : Thread nD τ) sc1 fullShare (W1 m c)
      ∗ owns (c : Thread nD τ) sc2 fullShare (W2 m c) ∗ (∃ r, prngReg c r)) := by
  unfold Held
  iintro ⟨⟨%d0, %h0, H0⟩, ⟨%d1, %h1, H1⟩, ⟨%d2, %h2, H2⟩, Hg⟩
  obtain rfl := h0.all (by omega)
  obtain rfl := h1.all (by omega)
  obtain rfl := h2.all (by omega)
  isplitl [H0]; · iexact H0
  isplitl [H1]; · iexact H1
  isplitl [H2]; · iexact H2
  iexact Hg

theorem Held_of (c : Dev nD) (k : ℕ) :
    iprop(owns (c : Thread nD τ) sc0 fullShare (W0 m c) ∗ owns (c : Thread nD τ) sc1 fullShare (W1 m c)
      ∗ owns (c : Thread nD τ) sc2 fullShare (W2 m c) ∗ (∃ r, prngReg c r)) ⊢ Held m c k := by
  unfold Held
  iintro ⟨H0, H1, H2, Hg⟩
  isplitl [H0]
  · iexists _; isplitr; swap; · iexact H0
    ipureintro; exact fun _ _ => rfl
  isplitl [H1]
  · iexists _; isplitr; swap; · iexact H1
    ipureintro; exact fun _ _ => rfl
  isplitl [H2]
  · iexists _; isplitr; swap; · iexact H2
    ipureintro; exact fun _ _ => rfl
  iexact Hg

/-- The proof data: each array as the region finds it, each input's buffer at its block, the outputs at what the points
    leave, the resident weights followed between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outP m c t
    | ⟨10, _⟩ => outS m c t
  Φ t := Held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outP m c t := by dsimp only [dats]
theorem after0_10 (c : Dev nD) (t : Fin cfg0.N) : (dats m 0 c).after 10 t = outS m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## When the outputs are stored and written back -/

theorem idle9 : ∀ t : Fin cfg0.N, cfg0.idle 9 (grid0.coords t) = !decide (16 ≤ t.val ∧ t.val < 32) :=
  (by decide +kernel : ∀ t : Fin grid0.N, cfg0.idle 9 (grid0.coords t) = !decide (16 ≤ t.val ∧ t.val < 32))
theorem flush9 : ∀ t : Fin cfg0.N, (cfg0.win 9).flush t = decide (16 ≤ t.val ∧ t.val ≠ 31) :=
  (by decide +kernel : ∀ t : Fin grid0.N, win0_9.flush t = decide (16 ≤ t.val ∧ t.val ≠ 31))
theorem fresh9 : ∀ t : Fin cfg0.N, cfg0.fresh 9 t.val = decide (t.val < 32) :=
  (by decide +kernel : ∀ t : Fin grid0.N, cfg0.fresh 9 t.val = decide (t.val < 32))
theorem idle10 : ∀ t : Fin cfg0.N, cfg0.idle 10 (grid0.coords t) = !decide (t.val = 32) :=
  (by decide +kernel : ∀ t : Fin grid0.N, cfg0.idle 10 (grid0.coords t) = !decide (t.val = 32))
theorem flush10 : ∀ t : Fin cfg0.N, (cfg0.win 10).flush t = decide (t.val = 32) :=
  (by decide +kernel : ∀ t : Fin grid0.N, win0_10.flush t = decide (t.val = 32))

/-- The last point finds the prompt's last tile as the point before left it, and its own tile is the same one. -/
theorem outP_last (c : Dev nD) (t t' : Fin cfg0.N) (ht : t.val = 32) (ht' : t'.val = 31) : outP m c t = outP m c t' := by
  have e0 : iblk m c 0 t = iblk m c 0 t' := by
    obtain ⟨a, -⟩ := idx t
    obtain ⟨b, -⟩ := idx t'
    rw [ht] at a; rw [ht'] at b
    funext x
    blk_ext [iblk, a, b]
  have e2 : iblk m c 2 t = iblk m c 2 t' := by
    obtain ⟨-, -, a, -⟩ := idx t
    obtain ⟨-, -, b, -⟩ := idx t'
    funext x
    blk_ext [iblk, a, b]
  have e6 : iblk m c 6 t = iblk m c 6 t' := by
    funext x
    blk_ext [iblk, (idxc t).1, (idxc t').1]
  unfold outP; rw [e0, e2, e6]

theorem before9_last (c : Dev nD) (t : Fin cfg0.N) (ht : t.val = 32) (d) : (dats m 0 c).before 9 t d = outP m c t := by
  rw [(dats m 0 c).before_out_traj 9 rfl (fun _ _ => rfl) ?_ t.val t rfl d, fresh9, if_neg (by simp [ht]), after0_9]
  · exact (outP_last m c t _ ht (by show t.val - 1 = 31; omega)).symm
  · intro t ht0 hi hf
    have hN : t.val < 33 := (idx t).2.2.2.2.2.2.2.2
    rw [fresh9] at hf
    have hlt : ¬ t.val < 32 := by simpa using hf
    have h32 : t.val = 32 := by omega
    rw [after0_9, after0_9]
    exact outP_last m c t _ h32 (by show t.val - 1 = 31; omega)

theorem leaves9_idle (c : Dev nD) (t : Fin cfg0.N) (ht : t.val < 16) :
    (dats m 0 c).leavesExact 9 t = iprop(∃ d, owns (c : Thread nD τ) ((cfg0.win 9).stage (cfg0.slots t 9)) fullShare ((dats m 0 c).before 9 t d)) :=
  (dats m 0 c).leavesExact_idle 9 t ((idle9 t).trans (by simp; omega)) ((flush9 t).trans (by simp; omega))
theorem leaves9 (c : Dev nD) (t : Fin cfg0.N) (ht : 16 ≤ t.val) :
    (dats m 0 c).leavesExact 9 t = owns (c : Thread nD τ) ((cfg0.win 9).stage (cfg0.slots t 9)) fullShare (outP m c t) := by
  have hN : t.val < 33 := (idx t).2.2.2.2.2.2.2.2
  unfold Dat.leavesExact
  by_cases h : t.val < 32
  · rw [(show cfg0.idle 9 (cfg0.grid.coords t) = false from (idle9 t).trans (by simp; omega)), after0_9]
  · rw [(show cfg0.idle 9 (cfg0.grid.coords t) = true from (idle9 t).trans (by simp; omega)),
      (show (cfg0.win 9).flush t = true from (flush9 t).trans (by simp; omega)), after0_9]
theorem leaves10_idle (c : Dev nD) (t : Fin cfg0.N) (ht : t.val < 32) :
    (dats m 0 c).leavesExact 10 t = iprop(∃ d, owns (c : Thread nD τ) ((cfg0.win 10).stage (cfg0.slots t 10)) fullShare ((dats m 0 c).before 10 t d)) :=
  (dats m 0 c).leavesExact_idle 10 t ((idle10 t).trans (by simp; omega)) ((flush10 t).trans (by simp; omega))
theorem leaves10 (c : Dev nD) (t : Fin cfg0.N) (ht : t.val = 32) :
    (dats m 0 c).leavesExact 10 t = owns (c : Thread nD τ) ((cfg0.win 10).stage (cfg0.slots t 10)) fullShare (outS m c t) := by
  unfold Dat.leavesExact
  rw [(show cfg0.idle 10 (cfg0.grid.coords t) = false from (idle10 t).trans (by simp; omega)), after0_10]

abbrev ms0 (t : Fin cfg0.N) : Memref sig .tc .vmem S1024x1024 .f32 := win0_0.stage (cfg0.slots t 0)
abbrev ms1 (t : Fin cfg0.N) : Memref sig .tc .vmem S128x4x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S64x2816 .f32 := win0_3.stage (cfg0.slots t 3)
abbrev ms4 (t : Fin cfg0.N) : Memref sig .tc .vmem S64x2816 .f32 := win0_4.stage (cfg0.slots t 4)
abbrev ms5 (t : Fin cfg0.N) : Memref sig .tc .vmem S176x1024 .f32 := win0_5.stage (cfg0.slots t 5)
abbrev ms6 (t : Fin cfg0.N) : Memref sig .tc .vmem S1x1024 .f32 := win0_6.stage (cfg0.slots t 6)
abbrev ms7 (t : Fin cfg0.N) : Memref sig .tc .vmem S128x16x256 .f32 := win0_7.stage (cfg0.slots t 7)
abbrev ms8 (t : Fin cfg0.N) : Memref sig .tc .vmem S1024x1024 .bf16 := win0_8.stage (cfg0.slots t 8)
abbrev ms9 (t : Fin cfg0.N) : Memref sig .tc .vmem S1024x1024 .f32 := win0_9.stage (cfg0.slots t 9)
abbrev ms10 (t : Fin cfg0.N) : Memref sig .tc .vmem S128x4x1024 .f32 := win0_10.stage (cfg0.slots t 10)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- An input window is never idle: its buffer ends at its block. -/
theorem leavesIn (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 33 := (idx t).2.2.2.2.2.2.2.2
  simp only [before0_0, before0_1, before0_2, before0_3, before0_4, before0_5, before0_6, before0_7, before0_8]
  rw [show (dats m 0 c).owesAt () t.succ = (dats m 0 c).owesAt () t.castSucc from rfl,
    show (dats m 0 c).Φ t.castSucc = Held m c t.val from rfl, show (dats m 0 c).Φ t.succ = Held m c (t.val + 1) from rfl]
  rw [leavesIn m c t 0 rfl, after0_0]
  rw [leavesIn m c t 1 rfl, after0_1]
  rw [leavesIn m c t 2 rfl, after0_2]
  rw [leavesIn m c t 3 rfl, after0_3]
  rw [leavesIn m c t 4 rfl, after0_4]
  rw [leavesIn m c t 5 rfl, after0_5]
  rw [leavesIn m c t 6 rfl, after0_6]
  rw [leavesIn m c t 7 rfl, after0_7]
  rw [leavesIn m c t 8 rfl, after0_8]
  rcases Nat.lt_or_ge t.val 16 with ht | ht
  · rw [leaves9_idle m c t ht, leaves10_idle m c t (by omega)]
    unfold Held
    rw [show min t.val 16 = t.val by omega, show min (t.val + 1) 16 = t.val + 1 by omega, Nat.mul_succ, Nat.mul_succ]
    iintro ⟨⟨⟨%s0, %hs0, S0⟩, ⟨%s1, %hs1, S1⟩, ⟨%s2, %hs2, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ ((copies t).mpr ht) (fun h => by have := (prompts t).mp h; omega)
      (fun h => by have := (samples t).mp h; omega) (iblk m c 3 t) (iblk m c 4 t) (iblk m c 5 t) s0 s1 s2 (off1_eq t ht) (off2_eq t ht) Set.univ _)
    isplitl [H3]; · iexact H3
    isplitl [H4]; · iexact H4
    isplitl [H5]; · iexact H5
    isplitl [S0]; · iexact S0
    isplitl [S1]; · iexact S1
    isplitl [S2]; · iexact S2
    iintro ⟨H3, H4, H5, ⟨%e0, %he0, S0⟩, ⟨%e1, %he1, S1⟩, ⟨%e2, %he2, S2⟩⟩
    isplitl [S0 S1 S2 Hg]
    · isplitl [S0]
      · iexists e0; isplitr; swap; · iexact S0
        ipureintro; exact hs0.step he0 fun x y h0 h1 => slab0_at m c t ht x y h0 h1
      isplitl [S1]
      · iexists e1; isplitr; swap; · iexact S1
        ipureintro; exact hs1.step he1 fun x y h0 h1 => slab1_at m c t ht x y h0 h1
      isplitl [S2]
      · iexists e2; isplitr; swap; · iexact S2
        ipureintro; exact hs2.step he2 fun x y h0 h1 => slab2_at m c t ht x y h0 h1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    iexists d10; iexact H10
  rw [leaves9 m c t ht]
  refine ((sep_mono (Held_full m c t.val ht) .rfl).trans ?_)
  rcases Nat.lt_or_ge t.val 32 with ht' | ht'
  · rw [leaves10_idle m c t ht']
    iintro ⟨⟨S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ (fun h => by have := (copies t).mp h; omega) ((prompts t).mpr ⟨ht, ht'⟩)
      (fun h => by have := (samples t).mp h; omega) (iblk m c 0 t) (iblk m c 2 t) (iblk m c 6 t) (W0 m c) (W1 m c) (W2 m c) Set.univ _)
    isplitl [H0]; · iexact H0
    isplitl [H2]; · iexact H2
    isplitl [H6]; · iexact H6
    isplitl [S0]; · iexact S0
    isplitl [S1]; · iexact S1
    isplitl [S2]; · iexact S2
    isplitl [H9]; · iexists _; iexact H9
    iintro ⟨H0, H2, H6, S0, S1, S2, H9⟩
    isplitl [S0 S1 S2 Hg]
    · iapply (Held_of m c (t.val + 1))
      isplitl [S0]; · iexact S0
      isplitl [S1]; · iexact S1
      isplitl [S2]; · iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  have h32 : t.val = 32 := by omega
  rw [leaves10 m c t h32]
  simp only [before9_last m c t h32]
  iintro ⟨⟨S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runC c (grid0.coords t) _ _ _ _ _ _ _ _ _ _ _ _ _ _ _ _ _ _ _ _ _ _ _ _ _ _ _ _ (fun h => by have := (copies t).mp h; omega) (fun h => by have := (prompts t).mp h; omega)
    ((samples t).mpr h32) (iblk m c 1 t) (iblk m c 2 t) (iblk m c 6 t) (iblk m c 7 t) (iblk m c 8 t) (W0 m c) (W1 m c) (W2 m c) Set.univ _)
  isplitl [H1]; · iexact H1
  isplitl [H2]; · iexact H2
  isplitl [H6]; · iexact H6
  isplitl [H7]; · iexact H7
  isplitl [H8]; · iexact H8
  isplitl [S0]; · iexact S0
  isplitl [S1]; · iexact S1
  isplitl [S2]; · iexact S2
  isplitl [H10]; · iexists _; iexact H10
  iintro ⟨H1, H2, H6, H7, H8, S0, S1, S2, H10⟩
  isplitl [S0 S1 S2 Hg]
  · iapply (Held_of m c (t.val + 1))
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin (c : Dev nD) : Pipeline.ΦA spec0 c ⊢ (dats (F := F) m 0 c).Φ 0 := by
  rw [PhiA_eq, show (dats m 0 c).Φ 0 = Held m c 0 from rfl]
  unfold Held
  iintro ⟨⟨⟨%d0, S0⟩, ⟨%d1, S1⟩, ⟨%d2, S2⟩⟩, Hg⟩
  isplitl [S0]
  · iexists d0; isplitr; swap; · iexact S0
    ipureintro; exact fun y hy => absurd hy (by simp)
  isplitl [S1]
  · iexists d1; isplitr; swap; · iexact S1
    ipureintro; exact fun y hy => absurd hy (by simp)
  isplitl [S2]
  · iexists d2; isplitr; swap; · iexact S2
    ipureintro; exact fun y hy => absurd hy (by simp)
  iexact Hg

theorem hout (c : Dev nD) : (dats (F := F) m 0 c).Φ (Fin.last cfg0.N) ⊢ Pipeline.ΦA spec0 c := by
  rw [PhiA_eq, show (dats m 0 c).Φ (Fin.last cfg0.N) = Held m c (Fin.last cfg0.N).val from rfl]
  unfold Held
  iintro ⟨⟨%d0, -, S0⟩, ⟨%d1, -, S1⟩, ⟨%d2, -, S2⟩, Hg⟩
  isplitr [Hg]
  · isplitl [S0]; · iexists d0; iexact S0
    isplitl [S1]; · iexists d1; iexact S1
    iexists d2; iexact S2
  iexact Hg

set_option backward.isDefEq.respectTransparency.types false in
/-- Every execution ends, with every array of the launch at what the points left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.LastRun

end
-- ==== Proof.LastValue.lean ====
/- The last feed-forward kernel's results: every row is the row (for the sample rows with the attention's projection
   added) with half a gated feed-forward step added, normalised, on the kernel's side and on the reference's. -/
module

public import proofs.«01_k».proof.Proof.LastFrame
public import proofs.«01_k».proof.Proof.FfnValue
public import proofs.«01_k».proof.Proof.Gen.LastRefIdeal.Run
public import Idealize.ShloMosaic.Lib.Pipeline.ValueKit

@[expose] public section
set_option maxRecDepth 16384
noncomputable section

namespace Cert.LastVal
open Idealize.ShloMosaic Idealize.ShloMosaic.TcCoe Idealize.ShloMosaic.Tactic
open Cert.FfnVal (rms ffn ffn_congr)

/-- A row after the last step: half a gated feed-forward step added, then normalised. -/
def fin (x g : Fin 1024 → EReal) (a b : Fin 1024 → Fin 2816 → EReal) (d : Fin 2816 → Fin 1024 → EReal) (f : Fin 1024 → EReal) (j : Fin 1024) : EReal :=
  rms (ffn x g a b d) f j
theorem fin_congr {x x' g g' f f' : Fin 1024 → EReal} {a a' b b' : Fin 1024 → Fin 2816 → EReal} {d d' : Fin 2816 → Fin 1024 → EReal}
    {j j' : Fin 1024} (hx : ∀ k, x k = x' k) (hg : ∀ k, g k = g' k) (ha : ∀ k p, a k p = a' k p) (hb : ∀ k p, b k p = b' k p)
    (hd : ∀ p k, d p k = d' p k) (hf : ∀ k, f k = f' k) (hj : j = j') : fin x g a b d f j = fin x' g' a' b' d' f' j' := by
  obtain rfl := funext hf
  obtain rfl := hj
  unfold fin
  refine congrArg (fun y => rms y f j) (funext fun k => ?_)
  exact ffn_congr hx hg ha hb hd rfl

section
open Cert.LastRefIdeal Cert.LastRefIdeal.Value Cert.LastRefIdeal.Gen Idealize.ShloMosaic.StableHlo

/-- The rows `x` normalised by their root mean square and scaled by `g`. -/
def normP (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32)
      reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- Half a gated feed-forward step on normalised rows `y`, before it is added. -/
def gateP (y : FVec Ideal S8x2048x1024 .f32) (a b : FVec Ideal S1024x2816 .f32) (d : FVec Ideal S2816x1024 .f32) : FVec Ideal S8x2048x1024 .f32 :=
  mulf (broadcastInDim S8x2048x1024 ![] bcast_S_S8x2048x1024 (constant S_ .f32 0x3F000000#32))
    (Host.dotGeneral dot_S8x2048x2816_S2816x1024_S8x2048x1024_2_0_01_1_n_n none
      (mulf (mulf (Host.dotGeneral dot_S8x2048x1024_S1024x2816_S8x2048x2816_2_0_01_1_n_n none y a)
        (Host.divf (broadcastInDim S8x2048x2816 ![] bcast_S_S8x2048x2816 (constant S_ .f32 0x3F800000#32))
          (addf (broadcastInDim S8x2048x2816 ![] bcast_S_S8x2048x2816 (constant S_ .f32 0x3F800000#32))
            (Host.exp (Host.negf (Host.dotGeneral dot_S8x2048x1024_S1024x2816_S8x2048x2816_2_0_01_1_n_n none y a))))))
        (Host.dotGeneral dot_S8x2048x1024_S1024x2816_S8x2048x2816_2_0_01_1_n_n none y b)) d)

theorem normP_at (x : FVec Ideal S8x2048x1024 .f32) (g : FVec Ideal S1024 .f32) (u : Fin 8) (v : Fin 2048) (k : Fin 1024) :
    normP x g (ix3 u v k) = rms (fun k => x (ix3 u v k)) (fun k => g (ix1 k)) k := by
  pointwise [normP, rms]

set_option maxHeartbeats 4000000 in
theorem stepP_at (x : FVec Ideal S8x2048x1024 .f32) (g : FVec Ideal S1024 .f32) (a b : FVec Ideal S1024x2816 .f32)
    (d : FVec Ideal S2816x1024 .f32) (u : Fin 8) (v : Fin 2048) (k : Fin 1024) :
    addf x (gateP (normP x g) a b d) (ix3 u v k) = ffn (fun k => x (ix3 u v k)) (fun k => g (ix1 k)) (fun k p => a (ix2 k p))
      (fun k p => b (ix2 k p)) (fun p j => d (ix2 p j)) k := by
  have h := fun k => normP_at x g u v k
  generalize normP x g = y at h
  pointwise [gateP, ffn]
  simp only [h, Ideal.logistic]

/-- The rows `x` normalised by their root mean square and scaled by `g`. -/
def normS (x : FVec Ideal S128x4x1024 .f32) (g : FVec Ideal S1024 .f32) : FVec Ideal S128x4x1024 .f32 :=
  mulf (mulf x (broadcastInDim S128x4x1024 ![0, 1, 2] bcast_S128x4x1_S128x4x1024_0_1_2 (Host.rsqrt (addf (Host.divf
    (broadcastInDim S128x4x1 ![0, 1] bcast_S128x4_S128x4x1_0_1 (Host.reduceAdd (mulf x x) (constant S_ .f32 0x00000000#32)
      reducesTo_S128x4x1024_S128x4_d2 h_S_)) (broadcastInDim S128x4x1 ![] bcast_S_S128x4x1 (constant S_ .f32 0x44800000#32)))
    (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))

/-- Half a gated feed-forward step on normalised rows `y`, before it is added. -/
def gateS (y : FVec Ideal S128x4x1024 .f32) (a b : FVec Ideal S1024x2816 .f32) (d : FVec Ideal S2816x1024 .f32) : FVec Ideal S128x4x1024 .f32 :=
  mulf (broadcastInDim S128x4x1024 ![] bcast_S_S128x4x1024 (constant S_ .f32 0x3F000000#32))
    (Host.dotGeneral dot_S128x4x2816_S2816x1024_S128x4x1024_2_0_01_1_n_n none
      (mulf (mulf (Host.dotGeneral dot_S128x4x1024_S1024x2816_S128x4x2816_2_0_01_1_n_n none y a)
        (Host.divf (broadcastInDim S128x4x2816 ![] bcast_S_S128x4x2816 (constant S_ .f32 0x3F800000#32))
          (addf (broadcastInDim S128x4x2816 ![] bcast_S_S128x4x2816 (constant S_ .f32 0x3F800000#32))
            (Host.exp (Host.negf (Host.dotGeneral dot_S128x4x1024_S1024x2816_S128x4x2816_2_0_01_1_n_n none y a))))))
        (Host.dotGeneral dot_S128x4x1024_S1024x2816_S128x4x2816_2_0_01_1_n_n none y b)) d)

theorem normS_at (x : FVec Ideal S128x4x1024 .f32) (g : FVec Ideal S1024 .f32) (u : Fin 128) (v : Fin 4) (k : Fin 1024) :
    normS x g (ix3 u v k) = rms (fun k => x (ix3 u v k)) (fun k => g (ix1 k)) k := by
  pointwise [normS, rms]

set_option maxHeartbeats 4000000 in
theorem stepS_at (x : FVec Ideal S128x4x1024 .f32) (g : FVec Ideal S1024 .f32) (a b : FVec Ideal S1024x2816 .f32)
    (d : FVec Ideal S2816x1024 .f32) (u : Fin 128) (v : Fin 4) (k : Fin 1024) :
    addf x (gateS (normS x g) a b d) (ix3 u v k) = ffn (fun k => x (ix3 u v k)) (fun k => g (ix1 k)) (fun k p => a (ix2 k p))
      (fun k p => b (ix2 k p)) (fun p j => d (ix2 p j)) k := by
  have h := fun k => normS_at x g u v k
  generalize normS x g = y at h
  pointwise [gateS, ffn]
  simp only [h, Ideal.logistic]

/-- The reference's prompt rows, from its arguments. -/
def refP (x : FVec Ideal S8x2048x1024 .f32) (g : FVec Ideal S1024 .f32) (a b : FVec Ideal S1024x2816 .f32)
    (d : FVec Ideal S2816x1024 .f32) (f : FVec Ideal S1024 .f32) : FVec Ideal S16384x1024 .f32 :=
  shapeCast S16384x1024 (normP (addf x (gateP (normP x g) a b d)) f) shapeCasts_S8x2048x1024_S16384x1024

/-- The reference's sample rows with the attention's projected. -/
def attS (x : FVec Ideal S128x4x1024 .f32) (o : FVec Ideal S128x4x4x256 .f32) (w : FVec Ideal S1024x1024 .f32) : FVec Ideal S128x4x1024 .f32 :=
  addf x (Host.dotGeneral dot_S128x4x1024_S1024x1024_S128x4x1024_2_0_01_1_n_n none
    (shapeCast S128x4x1024 o shapeCasts_S128x4x4x256_S128x4x1024) w)

/-- The reference's sample rows, from its arguments. -/
def refS (x : FVec Ideal S128x4x1024 .f32) (g : FVec Ideal S1024 .f32) (a b : FVec Ideal S1024x2816 .f32)
    (d : FVec Ideal S2816x1024 .f32) (f : FVec Ideal S1024 .f32) (o : FVec Ideal S128x4x4x256 .f32) (w : FVec Ideal S1024x1024 .f32) :
    FVec Ideal S128x4x1024 .f32 :=
  normS (addf (attS x o w) (gateS (normS (attS x o w) g) a b d)) f

theorem refP_row (x : FVec Ideal S8x2048x1024 .f32) (g : FVec Ideal S1024 .f32) (a b : FVec Ideal S1024x2816 .f32)
    (d : FVec Ideal S2816x1024 .f32) (f : FVec Ideal S1024 .f32) (i : S16384x1024.Idx) (u : Fin 8) (v : Fin 2048) (j : Fin 1024)
     (h0 : (i 0 : ℕ) = 2048 * u.val + v.val) (h1 : (i 1 : ℕ) = j.val) :
    refP x g a b d f i = fin (fun k => x (ix3 u v k)) (fun k => g (ix1 k)) (fun k p => a (ix2 k p)) (fun k p => b (ix2 k p)) (fun p j => d (ix2 p j)) (fun k => f (ix1 k)) j := by
  have hu := u.isLt
  have hv := v.isLt
  have e0 : (i 0 : ℕ) / 2048 = u.val := by omega
  have e1 : (i 0 : ℕ) % 2048 = v.val := by omega
  have e2 : i 1 = j := Fin.ext h1
  have h := fun (X : FVec Ideal S8x2048x1024 .f32) k => normP_at X f u v k
  have h' := fun k => stepP_at x g a b d u v k
  unfold refP fin
  generalize addf x (gateP (normP x g) a b d) = X at h' ⊢
  have h := h X
  generalize normP X f = Y at h ⊢
  pointwise []
  simp only [e0, e1, e2, Fin.eta, h, h']

/-- A sample row with the attention's heads projected and added. -/
def att (x : Fin 1024 → EReal) (o : Fin 1024 → EReal) (w : Fin 1024 → Fin 1024 → EReal) (k : Fin 1024) : EReal := x k + ∑ l, o l * w l k

theorem attS_at (x : FVec Ideal S128x4x1024 .f32) (o : FVec Ideal S128x4x4x256 .f32) (w : FVec Ideal S1024x1024 .f32) (u : Fin 128) (v : Fin 4) (k : Fin 1024) :
    attS x o w (ix3 u v k) = att (fun k => x (ix3 u v k)) (fun l => o (ix4 u v ⟨l.val / 256, by omega⟩ ⟨l.val % 256, by omega⟩)) (fun l k => w (ix2 l k)) k := by
  pointwise [attS, att]

theorem refS_row (x : FVec Ideal S128x4x1024 .f32) (g : FVec Ideal S1024 .f32) (a b : FVec Ideal S1024x2816 .f32)
    (d : FVec Ideal S2816x1024 .f32) (f : FVec Ideal S1024 .f32) (o : FVec Ideal S128x4x4x256 .f32) (w : FVec Ideal S1024x1024 .f32)
    (u : Fin 128) (v : Fin 4) (j : Fin 1024) :
    refS x g a b d f o w (ix3 u v j) = fin (att (fun k => x (ix3 u v k)) (fun l => o (ix4 u v ⟨l.val / 256, by omega⟩ ⟨l.val % 256, by omega⟩)) (fun l k => w (ix2 l k)))
      (fun k => g (ix1 k)) (fun k p => a (ix2 k p)) (fun k p => b (ix2 k p)) (fun p j => d (ix2 p j)) (fun k => f (ix1 k)) j := by
  unfold refS fin
  rw [normS_at]
  simp only [stepS_at, attS_at]

set_option maxHeartbeats 4000000 in
theorem refP_eq (m : (ℓ : Loc nD τ sig) → Buf (Elt Ideal) ℓ) (c : Dev nD) : res_main_v71 m c
    = refP (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := rfl

set_option maxHeartbeats 4000000 in
theorem refS_eq (m : (ℓ : Loc nD τ sig) → Buf (Elt Ideal) ℓ) (c : Dev nD) : res_main_v70 m c
    = refS (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) := rfl
end

section
open Cert.LastIdeal Cert.LastIdeal.Gen

set_option maxHeartbeats 4000000 in
theorem tileP (x : Vec Ideal S1024x1024 .f32) (g f : Vec Ideal S1x1024 .f32) (a b : Vec Ideal S1024x2816 .bf16) (d : Vec Ideal S2816x1024 .bf16) (i : S1024x1024.Idx) :
    LastRun.tileOut (F := Ideal) x g f a b d i
      = fin (fun k => x (ix2 (i 0) k)) (fun k => g (ix2 0 k)) (fun k p => a (ix2 k p)) (fun k p => b (ix2 k p)) (fun p j => d (ix2 p j)) (fun k => f (ix2 0 k)) (i 1) := by
  have h : ∀ k, k0_pay9 (F := Ideal) x g a b d (ix2 (i 0) k)
      = ffn (fun k => x (ix2 (i 0) k)) (fun k => g (ix2 0 k)) (fun k p => a (ix2 k p)) (fun k p => b (ix2 k p)) (fun p j => d (ix2 p j)) k := by
    intro k
    pointwise [k0_pay9, ffn, rms]
  unfold LastRun.tileOut fin k0_pay11
  generalize k0_pay9 (F := Ideal) x g a b d = X at h ⊢
  have hi : i = ix2 (n0 := 1024) (n1 := 1024) (i 0) (i 1) := by
    ext a; fin_cases a <;> rfl
  have hX : X i = _ := (congrArg X hi).trans (h (i 1))
  pointwise [k0_pay4, k0_pay10, k0_pay12, rms]
  rw [hX]
  simp only [h]

set_option maxHeartbeats 4000000 in
/-- A sample row as the last point forms it. -/
theorem sampleIn_at (x : Vec Ideal S128x4x1024 .f32) (o : Vec Ideal S128x16x256 .f32) (w : Vec Ideal S1024x1024 .bf16) (r : Fin 512) (u : Fin 128) (v : Fin 4)
    (h0 : r.val = 128 * v.val + u.val) (k : Fin 1024) :
    LastRun.sampleIn (F := Ideal) x o w (ix2 r k)
      = att (fun k => x (ix3 u v k)) (fun l => o (ix3 u ⟨4 * v.val + l.val / 256, by omega⟩ ⟨l.val % 256, by omega⟩)) (fun l k => w (ix2 l k)) k := by
  pointwise [LastRun.sampleIn, LastRun.rows4, LastRun.heads0, LastRun.head4, LastRun.head5, LastRun.head6, k0_pay13, k0_pay14, k0_pay15, k0_pay16, k0_pay17, k0_pay18, att]
  have hu := u.isLt
  refine congrArg₂ (· + ·) ?_ (Finset.sum_congr rfl fun l _ => congrArg (· * _) ?_)
  · split_ifs
    all_goals refine congrArg x ?_
    all_goals funext a
    all_goals fin_cases a
    all_goals refine Fin.ext ?_
    all_goals simp [ix3]
    all_goals try omega
  · have hl := l.isLt
    split_ifs
    all_goals refine congrArg o ?_
    all_goals funext a
    all_goals fin_cases a
    all_goals refine Fin.ext ?_
    all_goals simp [ix3]
    all_goals try omega
end

end Cert.LastVal
-- ==== Proof.LastEnd.lean ====
/- The last feed-forward kernel's arrays after the run are the reference's. -/
module

public import proofs.«01_k».proof.Proof.LastValue

@[expose] public section
set_option maxRecDepth 16384
noncomputable section

namespace Cert.LastVal
open Idealize.ShloMosaic Idealize.ShloMosaic.TcCoe Idealize.ShloMosaic.Tactic
open Cert.FfnVal (rms ffn ffn_congr)
open Cert.LastIdeal Cert.LastIdeal.Gen Cert.LastRun

set_option maxHeartbeats 4000000 in
theorem tileS (x1 : Vec Ideal S128x4x1024 .f32) (g f : Vec Ideal S1x1024 .f32) (o : Vec Ideal S128x16x256 .f32) (w : Vec Ideal S1024x1024 .bf16)
    (a b : Vec Ideal S1024x2816 .bf16) (d : Vec Ideal S2816x1024 .bf16) (r : Fin 512) (u : Fin 128) (v : Fin 4) (j : Fin 1024)
    (h0 : r.val = 128 * v.val + u.val) :
    sampleRows (F := Ideal) x1 g f o w a b d (ix2 r j)
      = fin (att (fun k => x1 (ix3 u v k)) (fun l => o (ix3 u ⟨4 * v.val + l.val / 256, by omega⟩ ⟨l.val % 256, by omega⟩)) (fun l k => w (ix2 l k)))
          (fun k => g (ix2 0 k)) (fun k p => a (ix2 k p)) (fun k p => b (ix2 k p)) (fun p j => d (ix2 p j)) (fun k => f (ix2 0 k)) j := by
  have h := sampleIn_at x1 o w r u v h0
  unfold sampleRows
  generalize sampleIn (F := Ideal) x1 o w = X at h ⊢
  generalize att (fun k => x1 (ix3 u v k)) (fun l => o (ix3 u ⟨4 * v.val + l.val / 256, by omega⟩ ⟨l.val % 256, by omega⟩)) (fun l k => w (ix2 l k)) = Y at h ⊢
  pointwise [k0_pay19, k0_pay21, fin, ffn, rms]
  simp only [h]

variable (m : (ℓ : Loc nD τ sig) → Buf (Elt Ideal) ℓ)

theorem W0_at (c : Dev nD) (k : Fin 1024) (p : Fin 2816) : W0 m c (ix2 k p) = m ((c : Thread nD τ).loc main_arg3) (ix2 k p) := by
  show V m c main_arg3 (ix2 k p) = _
  rw [V_main_arg3]
theorem W1_at (c : Dev nD) (k : Fin 1024) (p : Fin 2816) : W1 m c (ix2 k p) = m ((c : Thread nD τ).loc main_arg4) (ix2 k p) := by
  show V m c main_arg4 (ix2 k p) = _
  rw [V_main_arg4]
theorem W2_at (c : Dev nD) (p : Fin 2816) (k : Fin 1024) : W2 m c (ix2 p k) = m ((c : Thread nD τ).loc main_arg5) (ix2 p k) := by
  show V m c main_arg5 (ix2 p k) = _
  rw [V_main_arg5]

theorem xs_at (c : Dev nD) (t : Fin cfg0.N) (u : Fin 128) (v : Fin 4) (k : Fin 1024) :
    iblk m c 1 t (ix3 u v k) = m ((c : Thread nD τ).loc main_arg1) (ix3 u v k) := by
  obtain ⟨i0, i1, i2, i3, i4, i5, i9, i10, hlt⟩ := idx t
  blk_point [iblk, V, i1]

theorem g_at (c : Dev nD) (t : Fin cfg0.N) (k : Fin 1024) :
    iblk m c 2 t (ix2 0 k) = m ((c : Thread nD τ).loc main_arg2) (ix1 k) := by
  obtain ⟨i0, i1, i2, i3, i4, i5, i9, i10, hlt⟩ := idx t
  blk_point [iblk, V, i2]

theorem f_at (c : Dev nD) (t : Fin cfg0.N) (k : Fin 1024) :
    iblk m c 6 t (ix2 0 k) = m ((c : Thread nD τ).loc main_arg6) (ix1 k) := by
  obtain ⟨i6, i7, i8⟩ := idxc t
  blk_point [iblk, V, i6]

theorem o_at (c : Dev nD) (t : Fin cfg0.N) (u : Fin 128) (v : Fin 4) (l : Fin 1024) :
    iblk m c 7 t (ix3 u ⟨4 * v.val + l.val / 256, by omega⟩ ⟨l.val % 256, by omega⟩)
      = m ((c : Thread nD τ).loc main_arg7) (ix4 u v ⟨l.val / 256, by omega⟩ ⟨l.val % 256, by omega⟩) := by
  obtain ⟨i6, i7, i8⟩ := idxc t
  have hl := l.isLt
  have e0 : (4 * v.val + l.val / 256) / 4 = v.val := by omega
  have e1 : (4 * v.val + l.val / 256) % 4 = l.val / 256 := by omega
  blk_point [iblk, V, i7]

theorem w_at (c : Dev nD) (t : Fin cfg0.N) (l k : Fin 1024) :
    iblk m c 8 t (ix2 l k) = m ((c : Thread nD τ).loc main_arg8) (ix2 l k) := by
  obtain ⟨i6, i7, i8⟩ := idxc t
  blk_point [iblk, V, i8]

theorem xp_at (c : Dev nD) (t : Fin cfg0.N) (r : Fin 1024) (u : Fin 8) (v : Fin 2048) (k : Fin 1024)
    (h : 2048 * u.val + v.val = 1024 * min (t.val - 16) 15 + r.val) :
    iblk m c 0 t (ix2 r k) = m ((c : Thread nD τ).loc main_arg0) (ix3 u v k) := by
  obtain ⟨i0, i1, i2, i3, i4, i5, i9, i10, hlt⟩ := idx t
  have hu := u.isLt
  have hv := v.isLt
  have e0 : (1024 * min (t.val - 16) 15 + r.val) / 2048 = u.val := by omega
  have e1 : (1024 * min (t.val - 16) 15 + r.val) % 2048 = v.val := by omega
  blk_point [iblk, V, i0]

set_option maxHeartbeats 4000000 in
/-- The prompt rows after the run. -/
theorem finalP (c : Dev nD) : (dats m 0 c).arrAt 9 (cfgs 0).N
    = refP (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel) fun t hf y => ?_
  have hf' := hf
  rw [flush9, decide_eq_true_eq] at hf'
  obtain ⟨i0, i1, i2, i3, i4, i5, i9, i10, hlt⟩ := idx t
  have y0 : (y 0 : ℕ) < 1024 := (y 0).isLt
  have y1 : (y 1 : ℕ) < 1024 := (y 1).isLt
  blk_simp
  rw [after0_9]
  unfold outP
  refine (tileP _ _ _ _ _ _ _).trans (Eq.trans ?_ (refP_row _ _ _ _ _ _ _ ⟨(1024 * min (t.val - 16) 15 + (y 0).val) / 2048, by omega⟩
    ⟨(1024 * min (t.val - 16) 15 + (y 0).val) % 2048, by omega⟩ ⟨(y 1).val, y1⟩ ?_ ?_).symm)
  · exact fin_congr (fun k => xp_at m c t _ _ _ k (Nat.div_add_mod _ _)) (g_at m c t) (W0_at m c) (W1_at m c) (W2_at m c) (f_at m c t) rfl
  · blk_simp [i9]
    exact (show _ = 1024 * min (t.val - 16) 15 + (y 0).val by omega).trans (Nat.div_add_mod _ 2048).symm
  · blk_simp [i9]

end Cert.LastVal
-- ==== Proof.LastDone.lean ====
/- The last feed-forward kernel's sample rows after the run are the reference's. -/
module

public import proofs.«01_k».proof.Proof.LastEnd

@[expose] public section
set_option maxRecDepth 16384
noncomputable section

namespace Cert.LastVal
open Idealize.ShloMosaic Idealize.ShloMosaic.TcCoe Idealize.ShloMosaic.Tactic
open Cert.FfnVal (rms ffn ffn_congr)
open Cert.LastIdeal Cert.LastIdeal.Gen Cert.LastRun

theorem att_congr {x x' o o' : Fin 1024 → EReal} {w w' : Fin 1024 → Fin 1024 → EReal} (hx : ∀ k, x k = x' k) (ho : ∀ k, o k = o' k)
    (hw : ∀ l k, w l k = w' l k) (k : Fin 1024) : att x o w k = att x' o' w' k := by
  obtain rfl := funext hx
  obtain rfl := funext ho
  obtain rfl : w = w' := funext fun l => funext (hw l)
  rfl

variable (m : (ℓ : Loc nD τ sig) → Buf (Elt Ideal) ℓ)

theorem refS_at (x : FVec Ideal S128x4x1024 .f32) (g : FVec Ideal S1024 .f32) (a b : FVec Ideal S1024x2816 .f32)
    (d : FVec Ideal S2816x1024 .f32) (f : FVec Ideal S1024 .f32) (o : FVec Ideal S128x4x4x256 .f32) (w : FVec Ideal S1024x1024 .f32)
    (i : S128x4x1024.Idx) (u : Fin 128) (v : Fin 4) (j : Fin 1024) (h0 : (i 0 : ℕ) = u.val) (h1 : (i 1 : ℕ) = v.val) (h2 : (i 2 : ℕ) = j.val) :
    refS x g a b d f o w i = fin (att (fun k => x (ix3 u v k)) (fun l => o (ix4 u v ⟨l.val / 256, by omega⟩ ⟨l.val % 256, by omega⟩)) (fun l k => w (ix2 l k)))
      (fun k => g (ix1 k)) (fun k p => a (ix2 k p)) (fun k p => b (ix2 k p)) (fun p j => d (ix2 p j)) (fun k => f (ix1 k)) j := by
  have hi : i = ix3 u v j := by
    funext a
    fin_cases a
    · exact Fin.ext h0
    · exact Fin.ext h1
    · exact Fin.ext h2
  rw [hi]
  exact refS_row x g a b d f o w u v j

set_option maxHeartbeats 4000000 in
/-- The sample rows after the run. -/
theorem finalS (c : Dev nD) : (dats m 0 c).arrAt 10 (cfgs 0).N
    = refS (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 10 _ (by decide +kernel) fun t hf y => ?_
  obtain ⟨i0, i1, i2, i3, i4, i5, i9, i10, hlt⟩ := idx t
  have y0 : (y 0 : ℕ) < 128 := (y 0).isLt
  have y1 : (y 1 : ℕ) < 4 := (y 1).isLt
  have y2 : (y 2 : ℕ) < 1024 := (y 2).isLt
  blk_simp
  rw [after0_10]
  unfold outS regroup
  refine (tileS _ _ _ _ _ _ _ _ _ ⟨(y 0).val, y0⟩ ⟨(y 1).val, y1⟩ ⟨(y 2).val, y2⟩ rfl).trans (Eq.trans ?_
    (refS_at _ _ _ _ _ _ _ _ _ ⟨(y 0).val, y0⟩ ⟨(y 1).val, y1⟩ ⟨(y 2).val, y2⟩ ?_ ?_ ?_).symm)
  · exact fin_congr (att_congr (fun k => xs_at m c t _ _ k) (fun l => o_at m c t _ _ l) (w_at m c t)) (g_at m c t) (W0_at m c) (W1_at m c) (W2_at m c) (f_at m c t) rfl
  · blk_simp [i10]
  · blk_simp [i10]
  · blk_simp [i10]

end Cert.LastVal
-- ==== Proof.BankValue.lean ====
/- The memory bank's kernel's results: the rows normalised and projected by the two weights, on the kernel's side and on
   the reference's. -/
module

public import proofs.«01_k».proof.Proof.FfnValue
public import proofs.«01_k».proof.Proof.Gen.BankIdeal.Value
public import proofs.«01_k».proof.Proof.Gen.BankRefIdeal.Run
public import Idealize.ShloMosaic.Lib.Pipeline.ValueKit

@[expose] public section
set_option maxRecDepth 16384
noncomputable section

namespace Cert.BankVal
open Idealize.ShloMosaic Idealize.ShloMosaic.TcCoe Idealize.ShloMosaic.Tactic
open Cert.FfnVal (rms)

/-- A normalised row projected to entry `j`. -/
def proj (x g : Fin 1024 → EReal) (w : Fin 1024 → Fin 1024 → EReal) (j : Fin 1024) : EReal := ∑ k, rms x g k * w k j
theorem proj_congr {x x' g g' : Fin 1024 → EReal} {w w' : Fin 1024 → Fin 1024 → EReal} {j j' : Fin 1024}
    (hx : ∀ k, x k = x' k) (hg : ∀ k, g k = g' k) (hw : ∀ k p, w k p = w' k p) (hj : j = j') : proj x g w j = proj x' g' w' j' := by
  obtain rfl := funext hx
  obtain rfl := funext hg
  obtain rfl : w = w' := funext fun k => funext (hw k)
  rw [hj]

section
open Cert.BankRefIdeal Cert.BankRefIdeal.Gen Idealize.ShloMosaic.StableHlo

/-- The reference's projected rows. -/
def bank (x : FVec Ideal S8x256x1024 .f32) (g : FVec Ideal S1024 .f32) (w : FVec Ideal S1024x1024 .f32) : FVec Ideal S8x256x1024 .f32 :=
  Host.dotGeneral dot_S8x256x1024_S1024x1024_S8x256x1024_2_0_01_1_n_n none (mulf (mulf x (broadcastInDim S8x256x1024 ![0, 1, 2]
    bcast_S8x256x1_S8x256x1024_0_1_2 (Host.rsqrt (addf (Host.divf (broadcastInDim S8x256x1 ![0, 1] bcast_S8x256_S8x256x1_0_1
    (Host.reduceAdd (mulf x x) (constant S_ .f32 0x00000000#32) reducesTo_S8x256x1024_S8x256_d2 h_S_)) (broadcastInDim S8x256x1 ![] bcast_S_S8x256x1
    (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))) w

theorem bank_row (x : FVec Ideal S8x256x1024 .f32) (g : FVec Ideal S1024 .f32) (w : FVec Ideal S1024x1024 .f32) (u : Fin 8) (r : Fin 256) (j : Fin 1024) :
    bank x g w (ix3 u r j) = proj (fun k => x (ix3 u r k)) (fun k => g (ix1 k)) (fun k j => w (ix2 k j)) j := by
  pointwise [bank, proj, rms]

theorem bank_at (x : FVec Ideal S8x256x1024 .f32) (g : FVec Ideal S1024 .f32) (w : FVec Ideal S1024x1024 .f32) (i : S8x256x1024.Idx) (u : Fin 8) (r : Fin 256) (j : Fin 1024)
    (h0 : (i 0 : ℕ) = u.val) (h1 : (i 1 : ℕ) = r.val) (h2 : (i 2 : ℕ) = j.val) :
    bank x g w i = proj (fun k => x (ix3 u r k)) (fun k => g (ix1 k)) (fun k j => w (ix2 k j)) j := by
  have hi : i = ix3 u r j := by
    funext a
    fin_cases a
    · exact Fin.ext h0
    · exact Fin.ext h1
    · exact Fin.ext h2
  rw [hi]
  exact bank_row x g w u r j

/-- The reference's projected rows, in heads. -/
def heads (x : FVec Ideal S8x256x1024 .f32) (g : FVec Ideal S1024 .f32) (w : FVec Ideal S1024x1024 .f32) : FVec Ideal S8x256x4x256 .f32 :=
  shapeCast S8x256x4x256 (bank x g w) shapeCasts_S8x256x1024_S8x256x4x256

theorem heads_at (x : FVec Ideal S8x256x1024 .f32) (g : FVec Ideal S1024 .f32) (w : FVec Ideal S1024x1024 .f32) (i : S8x256x4x256.Idx) (u : Fin 8) (r : Fin 256) (h : Fin 4) (e : Fin 256)
    (h0 : (i 0 : ℕ) = u.val) (h1 : (i 1 : ℕ) = r.val) (h2 : (i 2 : ℕ) = h.val) (h3 : (i 3 : ℕ) = e.val) :
    heads x g w i = proj (fun k => x (ix3 u r k)) (fun k => g (ix1 k)) (fun k j => w (ix2 k j)) ⟨256 * h.val + e.val, by omega⟩ := by
  have hi : i = ix4 u r h e := by
    funext a
    fin_cases a
    · exact Fin.ext h0
    · exact Fin.ext h1
    · exact Fin.ext h2
    · exact Fin.ext h3
  subst hi
  have hb := bank_row x g w u r
  unfold heads
  generalize bank x g w = X at hb ⊢
  rw [← hb]
  pointwise []
  all_goals blk_point []
end

section
open Cert.BankIdeal Cert.BankIdeal.Gen

theorem k_at (x : Vec Ideal S1x256x1024 .f32) (g : Vec Ideal S1x1024 .f32) (w : Vec Ideal S1024x1024 .bf16) (r : Fin 256) (j : Fin 1024) :
    k0_pay6 (F := Ideal) x g w (ix2 r j) = proj (fun k => x (ix3 0 r k)) (fun k => g (ix2 0 k)) (fun k j => w (ix2 k j)) j := by
  pointwise [k0_pay6, k0_pay5, proj, rms]

theorem v_at (x : Vec Ideal S1x256x1024 .f32) (g : Vec Ideal S1x1024 .f32) (w : Vec Ideal S1024x1024 .bf16) (r : Fin 256) (j : Fin 1024) :
    k0_pay7 (F := Ideal) x g w (ix2 r j) = proj (fun k => x (ix3 0 r k)) (fun k => g (ix2 0 k)) (fun k j => w (ix2 k j)) j := by
  pointwise [k0_pay7, k0_pay5, proj, rms]

variable (m : (ℓ : Loc nD τ sig) → Buf (Elt Ideal) ℓ)

theorem idx : ∀ t : Fin cfg0.N, win0_0.index t = ![t.val, 0, 0] ∧ win0_1.index t = ![0, 0] ∧ win0_2.index t = ![0, 0] ∧ win0_3.index t = ![0, 0]
    ∧ win0_4.index t = ![t.val, 0, 0, 0] ∧ win0_5.index t = ![t.val, 0, 0, 0] ∧ win0_6.index t = ![t.val, 0, 0] ∧ win0_7.index t = ![t.val, 0, 0] ∧ t.val < 8 :=
  (by decide +kernel : ∀ t : Fin grid0.N, _)

theorem wk_first (c : Dev nD) (t : Fin cfg0.N) (h : t.val % 8 = 0) (k j : Fin 1024) :
    (outsAt0 m c t.val t.isLt).2.2.2.2.1 (ix2 k j) = m ((c : Thread nD τ).loc main_arg2) (ix2 k j) := by
  obtain ⟨i0, i1, i2, i3, i4, i5, i6, i7, hlt⟩ := idx t
  rw [outsAt0_A m c t h]
  frame_out
  pointwise [k0_pay3]
  blk_point [iblk, V, i2]

theorem wk_next (c : Dev nD) (t : Fin cfg0.N) (h : ¬ t.val % 8 = 0) :
    (outsAt0 m c t.val t.isLt).2.2.2.2.1 = (outsAt0 m c (t.val - 1) (by omega)).2.2.2.2.1 := by
  rw [outsAt0_B m c t h]
  dsimp only
  unfold sout0_B_0
  rfl

/-- The first weight scratch holds the first weight after every point. -/
theorem wk (c : Dev nD) (k j : Fin 1024) : ∀ (n : ℕ) (hn : n < cfg0.N), (outsAt0 m c n hn).2.2.2.2.1 (ix2 k j) = m ((c : Thread nD τ).loc main_arg2) (ix2 k j) := by
  intro n
  induction n with
  | zero => exact fun hn => wk_first m c ⟨0, hn⟩ (Nat.zero_mod _) k j
  | succ n ih =>
    intro hn
    have hN := lt_of_lt_of_eq hn (show cfg0.N = 8 from N_0)
    have h := wk_next m c ⟨n + 1, hn⟩ (by show ¬ (n + 1) % 8 = 0; omega)
    simp only [Nat.add_sub_cancel] at h
    rw [h]
    exact ih _

theorem wv_first (c : Dev nD) (t : Fin cfg0.N) (h : t.val % 8 = 0) (k j : Fin 1024) :
    (outsAt0 m c t.val t.isLt).2.2.2.2.2 (ix2 k j) = m ((c : Thread nD τ).loc main_arg3) (ix2 k j) := by
  obtain ⟨i0, i1, i2, i3, i4, i5, i6, i7, hlt⟩ := idx t
  rw [outsAt0_A m c t h]
  frame_out
  pointwise [k0_pay4]
  blk_point [iblk, V, i3]

theorem wv_next (c : Dev nD) (t : Fin cfg0.N) (h : ¬ t.val % 8 = 0) :
    (outsAt0 m c t.val t.isLt).2.2.2.2.2 = (outsAt0 m c (t.val - 1) (by omega)).2.2.2.2.2 := by
  rw [outsAt0_B m c t h]
  dsimp only
  unfold sout0_B_1
  rfl

/-- The second weight scratch holds the second weight after every point. -/
theorem wv (c : Dev nD) (k j : Fin 1024) : ∀ (n : ℕ) (hn : n < cfg0.N), (outsAt0 m c n hn).2.2.2.2.2 (ix2 k j) = m ((c : Thread nD τ).loc main_arg3) (ix2 k j) := by
  intro n
  induction n with
  | zero => exact fun hn => wv_first m c ⟨0, hn⟩ (Nat.zero_mod _) k j
  | succ n ih =>
    intro hn
    have hN := lt_of_lt_of_eq hn (show cfg0.N = 8 from N_0)
    have h := wv_next m c ⟨n + 1, hn⟩ (by show ¬ (n + 1) % 8 = 0; omega)
    simp only [Nat.add_sub_cancel] at h
    rw [h]
    exact ih _

theorem point4 (c : Dev nD) (t : Fin cfg0.N) (y : S1x256x4x256.Idx) (r : Fin 256) (j : Fin 1024) (hr : r.val = (y 1 : ℕ)) (hj : j.val = 256 * (y 2 : ℕ) + (y 3 : ℕ)) :
    (outsAt0 m c t.val t.isLt).1 y = k0_pay6 (F := Ideal) (iblk m c 0 t) (iblk m c 1 t) (outsAt0 m c t.val t.isLt).2.2.2.2.1 (ix2 r j) := by
  by_cases hA : t.val % 8 = 0
  · rw [outsAt0_A m c t hA]
    frame_out
    canon_tiles x h
    all_goals (open_payloads; pointwise; blk_ext)
  · rw [outsAt0_B m c t hA]
    unfold sout0_B_0
    frame_out
    erw [Memref.IsWhole.read_unread]
    canon_tiles x h
    all_goals (open_payloads; pointwise; blk_ext)

theorem point5 (c : Dev nD) (t : Fin cfg0.N) (y : S1x256x4x256.Idx) (r : Fin 256) (j : Fin 1024) (hr : r.val = (y 1 : ℕ)) (hj : j.val = 256 * (y 2 : ℕ) + (y 3 : ℕ)) :
    (outsAt0 m c t.val t.isLt).2.1 y = k0_pay7 (F := Ideal) (iblk m c 0 t) (iblk m c 1 t) (outsAt0 m c t.val t.isLt).2.2.2.2.2 (ix2 r j) := by
  by_cases hA : t.val % 8 = 0
  · rw [outsAt0_A m c t hA]
    frame_out
    canon_tiles x h
    all_goals (open_payloads; pointwise; blk_ext)
  · rw [outsAt0_B m c t hA]
    unfold sout0_B_1
    frame_out
    erw [Memref.IsWhole.read_unread]
    canon_tiles x h
    all_goals (open_payloads; pointwise; blk_ext)

theorem point6 (c : Dev nD) (t : Fin cfg0.N) (y : S1x256x1024.Idx) (r : Fin 256) (j : Fin 1024) (hr : r.val = (y 1 : ℕ)) (hj : j.val = (y 2 : ℕ)) :
    (outsAt0 m c t.val t.isLt).2.2.1 y = k0_pay6 (F := Ideal) (iblk m c 0 t) (iblk m c 1 t) (outsAt0 m c t.val t.isLt).2.2.2.2.1 (ix2 r j) := by
  by_cases hA : t.val % 8 = 0
  · rw [outsAt0_A m c t hA]
    frame_out
    open_payloads
    pointwise
    blk_ext
  · rw [outsAt0_B m c t hA]
    unfold sout0_B_0
    frame_out
    erw [Memref.IsWhole.read_unread]
    open_payloads
    pointwise
    blk_ext

theorem point7 (c : Dev nD) (t : Fin cfg0.N) (y : S1x256x1024.Idx) (r : Fin 256) (j : Fin 1024) (hr : r.val = (y 1 : ℕ)) (hj : j.val = (y 2 : ℕ)) :
    (outsAt0 m c t.val t.isLt).2.2.2.1 y = k0_pay7 (F := Ideal) (iblk m c 0 t) (iblk m c 1 t) (outsAt0 m c t.val t.isLt).2.2.2.2.2 (ix2 r j) := by
  by_cases hA : t.val % 8 = 0
  · rw [outsAt0_A m c t hA]
    frame_out
    open_payloads
    pointwise
    blk_ext
  · rw [outsAt0_B m c t hA]
    unfold sout0_B_1
    frame_out
    erw [Memref.IsWhole.read_unread]
    open_payloads
    pointwise
    blk_ext

theorem x_at (c : Dev nD) (t : Fin cfg0.N) (u : Fin 8) (h : u.val = t.val) (r : Fin 256) (k : Fin 1024) :
    iblk m c 0 t (ix3 0 r k) = m ((c : Thread nD τ).loc main_arg0) (ix3 u r k) := by
  obtain ⟨i0, i1, i2, i3, i4, i5, i6, i7, hlt⟩ := idx t
  blk_point [iblk, V, i0]

theorem g_at (c : Dev nD) (t : Fin cfg0.N) (k : Fin 1024) :
    iblk m c 1 t (ix2 0 k) = m ((c : Thread nD τ).loc main_arg1) (ix1 k) := by
  obtain ⟨i0, i1, i2, i3, i4, i5, i6, i7, hlt⟩ := idx t
  blk_point [iblk, V, i1]

theorem final4 (c : Dev nD) : (dats m 0 c).arrAt 4 (cfgs 0).N
    = heads (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨i0, i1, i2, i3, i4, i5, i6, i7, hlt⟩ := idx t
  have y0 : (y 0 : ℕ) < 1 := (y 0).isLt
  have y1 : (y 1 : ℕ) < 256 := (y 1).isLt
  have y2 : (y 2 : ℕ) < 4 := (y 2).isLt
  have y3 : (y 3 : ℕ) < 256 := (y 3).isLt
  blk_simp
  rw [after0_4]
  refine (point4 m c t y ⟨(y 1).val, y1⟩ ⟨256 * (y 2).val + (y 3).val, by omega⟩ rfl rfl).trans ((k_at _ _ _ _ _).trans (Eq.trans ?_
    (heads_at _ _ _ _ ⟨t.val, hlt⟩ ⟨(y 1).val, y1⟩ ⟨(y 2).val, y2⟩ ⟨(y 3).val, y3⟩ ?_ ?_ ?_ ?_).symm))
  · exact proj_congr (x_at m c t _ rfl _) (g_at m c t) (fun k j => wk m c k j t.val t.isLt) rfl
  · blk_simp [i4]
  · blk_simp [i4]
  · blk_simp [i4]
  · blk_simp [i4]

theorem final5 (c : Dev nD) : (dats m 0 c).arrAt 5 (cfgs 0).N
    = heads (m ((c : Thread nD τ).loc main_arg0)) (m ((c : Thread nD τ).loc main_arg1)) (m ((c : Thread nD τ).loc main_arg3)) := by
  refine (dats m 0 c).arrAt_eq_of_covers 5 _ (by decide +kernel) fun t hf y => ?_
  obtain ⟨i0, i1, i2, i3, i4, i5, i6, i7, hlt⟩ := idx t
  have y0 : (y 0 : ℕ) < 1 := (y 0).isLt
  have y1 : (y 1 : ℕ) < 256 := (y 1).isLt
  have y2 : (y 2 : ℕ) < 4 := (y 2).isLt
  have y3 : (y 3 : ℕ) < 256 := (y 3).isLt
  blk_simp
  rw [after0_5]
  refine (point5 m c t y ⟨(y 1).val, y1⟩ ⟨256 * (y 2).val + (y 3).val, by omega⟩ rfl rfl).trans ((v_at _ _ _ _ _).trans (Eq.trans ?_
    (heads_at _ _ _ _ ⟨t.val, hlt⟩ ⟨(y 1).val, y1⟩ ⟨(y 2).val, y2⟩ ⟨(y 3).val, y3⟩ ?_ ?_ ?_ ?_).symm))
  · exact proj_congr (x_at m c t _ rfl _) (g_at m c t) (fun k j => wv m c k j t.val t.isLt) rfl
  · blk_simp [i5]
  · blk_simp [i5]
  · blk_simp [i5]
  · blk_simp [i5]

theorem final6 (c : Dev nD) : (dats m 0 c).arrAt 6 (cfgs 0).N
    = bank (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨i0, i1, i2, i3, i4, i5, i6, i7, hlt⟩ := idx t
  have y0 : (y 0 : ℕ) < 1 := (y 0).isLt
  have y1 : (y 1 : ℕ) < 256 := (y 1).isLt
  have y2 : (y 2 : ℕ) < 1024 := (y 2).isLt
  blk_simp
  rw [after0_6]
  refine (point6 m c t y ⟨(y 1).val, y1⟩ ⟨(y 2).val, y2⟩ rfl rfl).trans ((k_at _ _ _ _ _).trans (Eq.trans ?_
    (bank_at _ _ _ _ ⟨t.val, hlt⟩ ⟨(y 1).val, y1⟩ ⟨(y 2).val, y2⟩ ?_ ?_ ?_).symm))
  · exact proj_congr (x_at m c t _ rfl _) (g_at m c t) (fun k j => wk m c k j t.val t.isLt) rfl
  · blk_simp [i6]
  · blk_simp [i6]
  · blk_simp [i6]

theorem final7 (c : Dev nD) : (dats m 0 c).arrAt 7 (cfgs 0).N
    = bank (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨i0, i1, i2, i3, i4, i5, i6, i7, hlt⟩ := idx t
  have y0 : (y 0 : ℕ) < 1 := (y 0).isLt
  have y1 : (y 1 : ℕ) < 256 := (y 1).isLt
  have y2 : (y 2 : ℕ) < 1024 := (y 2).isLt
  blk_simp
  rw [after0_7]
  refine (point7 m c t y ⟨(y 1).val, y1⟩ ⟨(y 2).val, y2⟩ rfl rfl).trans ((v_at _ _ _ _ _).trans (Eq.trans ?_
    (bank_at _ _ _ _ ⟨t.val, hlt⟩ ⟨(y 1).val, y1⟩ ⟨(y 2).val, y2⟩ ?_ ?_ ?_).symm))
  · exact proj_congr (x_at m c t _ rfl _) (g_at m c t) (fun k j => wv m c k j t.val t.isLt) rfl
  · blk_simp [i7]
  · blk_simp [i7]
  · blk_simp [i7]

end

end Cert.BankVal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.Last
public import proofs.«01_k».proof.Proof.Gen.LastIdeal
public import proofs.«01_k».proof.Proof.Gen.LastRefIdeal
public import proofs.«01_k».proof.Proof.Gen.LastRefIdeal.Run
public import proofs.«01_k».proof.Proof.Gen.Bank
public import proofs.«01_k».proof.Proof.Gen.BankIdeal
public import proofs.«01_k».proof.Proof.Gen.BankRefIdeal
public import proofs.«01_k».proof.Proof.Gen.BankRefIdeal.Run
public import proofs.«01_k».proof.Proof.Gen.Bank.Frame
public import proofs.«01_k».proof.Proof.AttnFrame
public import proofs.«01_k».proof.Proof.AttnValue
public import proofs.«01_k».proof.Proof.FfnFrame
public import proofs.«01_k».proof.Proof.FfnValue
public import proofs.«01_k».proof.Proof.LastFrame
public import proofs.«01_k».proof.Proof.LastDone
public import proofs.«01_k».proof.Proof.BankValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The program and its ideal form have one body. -/
theorem body_attn : (Cert.Kernel.defs₀ (F := Bits)) = (Cert.KernelIdeal.defs₀ (F := Bits)) := by
  unfold Cert.Kernel.defs₀ Cert.KernelIdeal.defs₀
  refine congrArg Defs.onTc ?_
  funext l x
  obtain ⟨l, hl⟩ := l
  match l, hl, x with
  | 0, _, (t, s) => rfl
  | n + 1, h, _ => exact absurd h (Nat.not_lt.2 (Nat.le_add_left _ _))

theorem defs_attn : (Cert.Kernel.defs (F := Bits)) = (Cert.KernelIdeal.defs (F := Bits)) :=
  congrArg (Pipeline.defs Cert.KernelIdeal.pcfgs) body_attn

theorem frame_attn : Cert.quiescent_Kernel := by
  intro m ρ _
  rw [defs_attn]
  exact Cert.AttnRun.frame (F := Bits) m ρ
theorem frame_attnIdeal : Cert.quiescent_KernelIdeal := fun m ρ _ => Cert.AttnRun.frame m ρ
/-- The program and its ideal form have one body. -/
theorem body_ffn : (Cert.Ffn.defs₀ (F := Bits)) = (Cert.FfnIdeal.defs₀ (F := Bits)) := by
  unfold Cert.Ffn.defs₀ Cert.FfnIdeal.defs₀
  refine congrArg Defs.onTc ?_
  funext l x
  obtain ⟨l, hl⟩ := l
  match l, hl, x with
  | 0, _, (t, s) => rfl
  | n + 1, h, _ => exact absurd h (Nat.not_lt.2 (Nat.le_add_left _ _))

theorem defs_ffn : (Cert.Ffn.defs (F := Bits)) = (Cert.FfnIdeal.defs (F := Bits)) :=
  congrArg (Pipeline.defs Cert.FfnIdeal.pcfgs) body_ffn

theorem frame_ffn : Cert.quiescent_Ffn := by
  intro m ρ _
  rw [defs_ffn]
  exact Cert.FfnRun.frame (F := Bits) m ρ
theorem frame_ffnIdeal : Cert.quiescent_FfnIdeal := fun m ρ _ => Cert.FfnRun.frame m ρ
/-- The program and its ideal form have one body. -/
theorem body_last : (Cert.Last.defs₀ (F := Bits)) = (Cert.LastIdeal.defs₀ (F := Bits)) := by
  unfold Cert.Last.defs₀ Cert.LastIdeal.defs₀
  refine congrArg Defs.onTc ?_
  funext l x
  obtain ⟨l, hl⟩ := l
  match l, hl, x with
  | 0, _, (t, s) => rfl
  | n + 1, h, _ => exact absurd h (Nat.not_lt.2 (Nat.le_add_left _ _))

theorem defs_last : (Cert.Last.defs (F := Bits)) = (Cert.LastIdeal.defs (F := Bits)) :=
  congrArg (Pipeline.defs Cert.LastIdeal.pcfgs) body_last

theorem frame_last : Cert.quiescent_Last := by
  intro m ρ _
  rw [defs_last]
  exact Cert.LastRun.frame (F := Bits) m ρ
theorem frame_lastIdeal : Cert.quiescent_LastIdeal := fun m ρ _ => Cert.LastRun.frame m ρ
theorem frame_bank : Cert.quiescent_Bank := fun m ρ _ => Cert.Bank.Gen.frame m ρ
theorem frame_bankIdeal : Cert.quiescent_BankIdeal := fun m ρ _ => Cert.BankIdeal.Gen.frame m ρ
theorem frame_attnRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
theorem frame_ffnRef : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run m ρ)
theorem frame_lastRef : Cert.quiescent_LastRefIdeal := fun m ρ _ =>
  (θ_run Cert.LastRefIdeal.defs _ _).mono (fun r h => ⟨fun c => (h c).2.2, sem_eq_zero_of_no_sems (by decide) r.2⟩)
    (Cert.LastRefIdeal.Value.run m ρ)
theorem frame_bankRef : Cert.quiescent_BankRefIdeal := fun m ρ _ =>
  (θ_run Cert.BankRefIdeal.defs _ _).mono (fun r h => ⟨fun c => (h c).2.2.2.2, sem_eq_zero_of_no_sems (by decide) r.2⟩)
    (Cert.BankRefIdeal.Value.run m ρ)

theorem value_attn : Cert.algebraic_KernelIdeal_ReferenceIdeal := by
  pair_intro
  · run_from Cert.AttnVal.run_value m g & Cert.AttnRun.unchanged m g
  · run_from Cert.ReferenceIdeal.Value.run m' g'
    · obtain ⟨h0, h1, h2, h3, h4, h5, h6, h7, h8⟩ := hagree c
      rw [Cert.AttnVal.res_eq, h0, h1, h2, h3, h4, h5]

theorem value_ffn : Cert.algebraic_FfnIdeal_FfnRefIdeal := by
  pair_intro
  · run_from Cert.FfnRun.run_main m g
  · run_from Cert.FfnRefIdeal.Value.run m' g'
    · exact (Cert.FfnVal.finalP m c).symm
    · exact (Cert.FfnVal.finalS m c).symm

theorem value_last : Cert.algebraic_LastIdeal_LastRefIdeal := by
  pair_intro
  · run_from Cert.LastRun.run_main m g
  · run_from Cert.LastRefIdeal.Value.run m' g'
    · obtain ⟨h0, h1, h2, h3, h4, h5, h6, h7, h8⟩ := hagree c
      rw [Cert.LastVal.refP_eq, h0, h2, h3, h4, h5, h6]
      exact (Cert.LastVal.finalP m c).symm
    · obtain ⟨h0, h1, h2, h3, h4, h5, h6, h7, h8⟩ := hagree c
      rw [Cert.LastVal.refS_eq, h1, h2, h3, h4, h5, h6, h7, h8]
      exact (Cert.LastVal.finalS m c).symm

theorem value_bank : Cert.algebraic_BankIdeal_BankRefIdeal := by
  pair_intro
  · run_from Cert.BankIdeal.Gen.run_main m g
  · run_from Cert.BankRefIdeal.Value.run m' g'
    · exact (Cert.BankVal.final4 m c).symm
    · exact (Cert.BankVal.final5 m c).symm
    · exact (Cert.BankVal.final6 m c).symm
    · exact (Cert.BankVal.final7 m c).symm

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Bank.Gen.facts, Cert.BankIdeal.Gen.facts, Cert.BankRefIdeal.Gen.facts,
  frame_attn, frame_attnIdeal, frame_attnRef,
  frame_ffn, frame_ffnIdeal, frame_ffnRef,
  frame_last, frame_lastIdeal, frame_lastRef,
  frame_bank, frame_bankIdeal, frame_bankRef,
  trivial, value_attn, trivial, value_ffn, trivial, value_last, trivial, value_bank⟩

end Cert.Proof

end
